-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v15_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v15_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x4096 : Shape := ⟨3, ![16, 1, 4096]⟩
abbrev S16x1x8x64 : Shape := ⟨4, ![16, 1, 8, 64]⟩
abbrev S16x8192x8x64 : Shape := ⟨4, ![16, 8192, 8, 64]⟩
abbrev S8 : Shape := ⟨1, ![8]⟩
abbrev S16x64x64 : Shape := ⟨3, ![16, 64, 64]⟩
abbrev S16x8x64x8192 : Shape := ⟨4, ![16, 8, 64, 8192]⟩
abbrev S16x512x8192 : Shape := ⟨3, ![16, 512, 8192]⟩
abbrev S16x8x64 : Shape := ⟨3, ![16, 8, 64]⟩
abbrev S8x1 : Shape := ⟨2, ![8, 1]⟩
abbrev S8x64 : Shape := ⟨2, ![8, 64]⟩
abbrev S512 : Shape := ⟨1, ![512]⟩
abbrev S512x1 : Shape := ⟨2, ![512, 1]⟩
abbrev S1x64x64 : Shape := ⟨3, ![1, 64, 64]⟩
abbrev S1x8x64 : Shape := ⟨3, ![1, 8, 64]⟩
abbrev S1x512x8192 : Shape := ⟨3, ![1, 512, 8192]⟩
abbrev S64x8192 : Shape := ⟨2, ![64, 8192]⟩
abbrev S64x64 : Shape := ⟨2, ![64, 64]⟩
abbrev S32x64 : Shape := ⟨2, ![32, 64]⟩
abbrev S32x256 : Shape := ⟨2, ![32, 256]⟩
abbrev S8x256 : Shape := ⟨2, ![8, 256]⟩
abbrev S8x1x64 : Shape := ⟨3, ![8, 1, 64]⟩
abbrev S8x8x64 : Shape := ⟨3, ![8, 8, 64]⟩
abbrev S64 : Shape := ⟨1, ![64]⟩
abbrev S64x1 : Shape := ⟨2, ![64, 1]⟩
abbrev S1x256x1024 : Shape := ⟨3, ![1, 256, 1024]⟩
abbrev S256x1024 : Shape := ⟨2, ![256, 1024]⟩
abbrev S256x1 : Shape := ⟨2, ![256, 1]⟩
abbrev S32x1024 : Shape := ⟨2, ![32, 1024]⟩
abbrev S64x1024 : Shape := ⟨2, ![64, 1024]⟩
abbrev S256x32 : Shape := ⟨2, ![256, 32]⟩

abbrev nBuf : Space → Nat
  | .hbm => 25
  | .vmem => 21
  | .smem => 0
  | _ => 0

abbrev bufTy : (tb : Table) → Fin (tcTables nBuf tb) → BufTy
  | .hbm, ⟨0, _⟩ => ⟨S16x1x4096, .bf16⟩
  | .hbm, ⟨1, _⟩ => ⟨S16x1x8x64, .bf16⟩
  | .hbm, ⟨2, _⟩ => ⟨S16x1x8x64, .bf16⟩
  | .hbm, ⟨3, _⟩ => ⟨S16x8192x8x64, .fp8e4m3⟩
  | .hbm, ⟨4, _⟩ => ⟨S8, .f32⟩
  | .hbm, ⟨5, _⟩ => ⟨S16x8192x8x64, .fp8e4m3⟩
  | .hbm, ⟨6, _⟩ => ⟨S8, .f32⟩
  | .hbm, ⟨7, _⟩ => ⟨S16x64x64, .bf16⟩
  | .hbm, ⟨8, _⟩ => ⟨S16x8x64x8192, .fp8e4m3⟩
  | .hbm, ⟨9, _⟩ => ⟨S16x512x8192, .fp8e4m3⟩
  | .hbm, ⟨10, _⟩ => ⟨S16x8x64x8192, .fp8e4m3⟩
  | .hbm, ⟨11, _⟩ => ⟨S16x512x8192, .fp8e4m3⟩
  | .hbm, ⟨12, _⟩ => ⟨S16x8x64, .bf16⟩
  | .hbm, ⟨13, _⟩ => ⟨S16x8x64, .bf16⟩
  | .hbm, ⟨14, _⟩ => ⟨S8x1, .f32⟩
  | .hbm, ⟨15, _⟩ => ⟨S8x1, .f32⟩
  | .hbm, ⟨16, _⟩ => ⟨S8x64, .f32⟩
  | .hbm, ⟨17, _⟩ => ⟨S512, .f32⟩
  | .hbm, ⟨18, _⟩ => ⟨S512x1, .f32⟩
  | .hbm, ⟨19, _⟩ => ⟨S8x64, .f32⟩
  | .hbm, ⟨20, _⟩ => ⟨S512, .f32⟩
  | .hbm, ⟨21, _⟩ => ⟨S512x1, .f32⟩
  | .hbm, ⟨22, _⟩ => ⟨S16x64x64, .bf16⟩
  | .hbm, ⟨23, _⟩ => ⟨S16x8x64, .fp8e4m3⟩
  | .hbm, ⟨24, _⟩ => ⟨S16x8x64, .fp8e4m3⟩
  | .local _ .vmem, ⟨0, _⟩ => ⟨S1x64x64, .bf16⟩
  | .local _ .vmem, ⟨1, _⟩ => ⟨S1x64x64, .bf16⟩
  | .local _ .vmem, ⟨2, _⟩ => ⟨S1x8x64, .bf16⟩
  | .local _ .vmem, ⟨3, _⟩ => ⟨S1x8x64, .bf16⟩
  | .local _ .vmem, ⟨4, _⟩ => ⟨S1x8x64, .bf16⟩
  | .local _ .vmem, ⟨5, _⟩ => ⟨S1x8x64, .bf16⟩
  | .local _ .vmem, ⟨6, _⟩ => ⟨S8x1, .f32⟩
  | .local _ .vmem, ⟨7, _⟩ => ⟨S8x1, .f32⟩
  | .local _ .vmem, ⟨8, _⟩ => ⟨S512x1, .f32⟩
  | .local _ .vmem, ⟨9, _⟩ => ⟨S512x1, .f32⟩
  | .local _ .vmem, ⟨10, _⟩ => ⟨S1x512x8192, .fp8e4m3⟩
  | .local _ .vmem, ⟨11, _⟩ => ⟨S1x512x8192, .fp8e4m3⟩
  | .local _ .vmem, ⟨12, _⟩ => ⟨S1x512x8192, .fp8e4m3⟩
  | .local _ .vmem, ⟨13, _⟩ => ⟨S1x512x8192, .fp8e4m3⟩
  | .local _ .vmem, ⟨14, _⟩ => ⟨S1x64x64, .bf16⟩
  | .local _ .vmem, ⟨15, _⟩ => ⟨S1x64x64, .bf16⟩
  | .local _ .vmem, ⟨16, _⟩ => ⟨S1x8x64, .fp8e4m3⟩
  | .local _ .vmem, ⟨17, _⟩ => ⟨S1x8x64, .fp8e4m3⟩
  | .local _ .vmem, ⟨18, _⟩ => ⟨S1x8x64, .fp8e4m3⟩
  | .local _ .vmem, ⟨19, _⟩ => ⟨S1x8x64, .fp8e4m3⟩
  | .local _ .vmem, ⟨20, _⟩ => ⟨S64x8192, .f32⟩
  | _, _ => ⟨S16x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x8192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x8192 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x64 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x64 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16x1x4096 : Shape := ⟨3, ![16, 1, 4096]⟩
abbrev S16x1x8x64 : Shape := ⟨4, ![16, 1, 8, 64]⟩
abbrev S16x8192x8x64 : Shape := ⟨4, ![16, 8192, 8, 64]⟩
abbrev S8 : Shape := ⟨1, ![8]⟩
abbrev S16x1x8x8x64 : Shape := ⟨5, ![16, 1, 8, 8, 64]⟩
abbrev S_ : Shape := ⟨0, ![]⟩
abbrev S8x1 : Shape := ⟨2, ![8, 1]⟩
abbrev S1x1x8x1 : Shape := ⟨4, ![1, 1, 8, 1]⟩
abbrev S16x8x8x1 : Shape := ⟨4, ![16, 8, 8, 1]⟩
abbrev S16x8x8x1x64 : Shape := ⟨5, ![16, 8, 8, 1, 64]⟩
abbrev S1 : Shape := ⟨1, ![1]⟩
abbrev S16x1024x8x64 : Shape := ⟨4, ![16, 1024, 8, 64]⟩
abbrev S16x8x1024x1x8 : Shape := ⟨5, ![16, 8, 1024, 1, 8]⟩
abbrev S16x8x8x1x1024 : Shape := ⟨5, ![16, 8, 8, 1, 1024]⟩
abbrev S16x8x8x1x1 : Shape := ⟨5, ![16, 8, 8, 1, 1]⟩
abbrev S1x1 : Shape := ⟨2, ![1, 1]⟩
abbrev S1x1x1x1x1 : Shape := ⟨5, ![1, 1, 1, 1, 1]⟩
abbrev S16x8x1x1x8 : Shape := ⟨5, ![16, 8, 1, 1, 8]⟩
abbrev S16x64x64 : Shape := ⟨3, ![16, 64, 64]⟩
abbrev S16x8x64 : Shape := ⟨3, ![16, 8, 64]⟩

abbrev nBuf : Space → Nat
  | .hbm => 244
  | .vmem => 10
  | .smem => 0
  | _ => 0

abbrev hbmTy0_0 (i : Nat) : BufTy := match i % 128 with
  | 0 => ⟨S16x1x4096, .bf16⟩
  | 1 => ⟨S16x1x8x64, .bf16⟩
  | 2 => ⟨S16x1x8x64, .bf16⟩
  | 3 => ⟨S16x8192x8x64, .fp8e4m3⟩
  | 4 => ⟨S8, .f32⟩
  | 5 => ⟨S16x8192x8x64, .fp8e4m3⟩
  | 6 => ⟨S8, .f32⟩
  | 7 => ⟨S16x1x8x8x64, .bf16⟩
  | 8 => ⟨S8, .f32⟩
  | 9 => ⟨S8, .f32⟩
  | 10 => ⟨S_, .f32⟩
  | 11 => ⟨S_, .f32⟩
  | 12 => ⟨S_, .f32⟩
  | 13 => ⟨S8, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .i1⟩
  | 22 => ⟨S_, .f32⟩
  | 23 => ⟨S8, .f32⟩
  | 24 => ⟨S8, .i1⟩
  | 25 => ⟨S8, .i1⟩
  | 26 => ⟨S_, .f32⟩
  | 27 => ⟨S_, .f32⟩
  | 28 => ⟨S8, .f32⟩
  | 29 => ⟨S8, .f32⟩
  | 30 => ⟨S_, .f32⟩
  | 31 => ⟨S8, .f32⟩
  | 32 => ⟨S8, .i1⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S_, .f32⟩
  | 40 => ⟨S_, .f32⟩
  | 41 => ⟨S8, .f32⟩
  | 42 => ⟨S8, .f32⟩
  | 43 => ⟨S16x1x8x64, .f32⟩
  | 44 => ⟨S8x1, .f32⟩
  | 45 => ⟨S1x1x8x1, .f32⟩
  | 46 => ⟨S16x1x8x64, .f32⟩
  | 47 => ⟨S16x1x8x64, .f32⟩
  | 48 => ⟨S_, .f32⟩
  | 49 => ⟨S_, .f32⟩
  | 50 => ⟨S_, .f32⟩
  | 51 => ⟨S16x1x8x64, .f32⟩
  | 52 => ⟨S16x1x8x64, .f32⟩
  | 53 => ⟨S_, .f32⟩
  | 54 => ⟨S16x1x8x64, .f32⟩
  | 55 => ⟨S16x1x8x64, .f32⟩
  | 56 => ⟨S8, .f32⟩
  | 57 => ⟨S8, .f32⟩
  | 58 => ⟨S_, .f32⟩
  | 59 => ⟨S_, .f32⟩
  | 60 => ⟨S_, .f32⟩
  | 61 => ⟨S8, .f32⟩
  | 62 => ⟨S8, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .i1⟩
  | 70 => ⟨S_, .f32⟩
  | 71 => ⟨S8, .f32⟩
  | 72 => ⟨S8, .i1⟩
  | 73 => ⟨S8, .i1⟩
  | 74 => ⟨S_, .f32⟩
  | 75 => ⟨S_, .f32⟩
  | 76 => ⟨S8, .f32⟩
  | 77 => ⟨S8, .f32⟩
  | 78 => ⟨S_, .f32⟩
  | 79 => ⟨S8, .f32⟩
  | 80 => ⟨S8, .i1⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S_, .f32⟩
  | 89 => ⟨S8, .f32⟩
  | 90 => ⟨S8, .f32⟩
  | 91 => ⟨S16x1x8x64, .f32⟩
  | 92 => ⟨S8x1, .f32⟩
  | 93 => ⟨S1x1x8x1, .f32⟩
  | 94 => ⟨S16x1x8x64, .f32⟩
  | 95 => ⟨S16x1x8x64, .f32⟩
  | 96 => ⟨S_, .f32⟩
  | 97 => ⟨S_, .f32⟩
  | 98 => ⟨S_, .f32⟩
  | 99 => ⟨S16x1x8x64, .f32⟩
  | 100 => ⟨S16x1x8x64, .f32⟩
  | 101 => ⟨S_, .f32⟩
  | 102 => ⟨S16x1x8x64, .f32⟩
  | 103 => ⟨S16x1x8x64, .f32⟩
  | 104 => ⟨S16x1x8x64, .fp8e4m3⟩
  | 105 => ⟨S16x1x8x64, .fp8e4m3⟩
  | 106 => ⟨S16x1x8x64, .bf16⟩
  | 107 => ⟨S16x1x8x64, .bf16⟩
  | 108 => ⟨S16x8192x8x64, .bf16⟩
  | 109 => ⟨S16x8192x8x64, .bf16⟩
  | 110 => ⟨S8, .bf16⟩
  | 111 => ⟨S8x1, .bf16⟩
  | 112 => ⟨S8, .bf16⟩
  | 113 => ⟨S8x1, .bf16⟩
  | 114 => ⟨S_, .f32⟩
  | 115 => ⟨S16x8x8x1, .f32⟩
  | 116 => ⟨S_, .f32⟩
  | 117 => ⟨S16x8x8x1, .f32⟩
  | 118 => ⟨S_, .f32⟩
  | 119 => ⟨S16x8x8x1x64, .f32⟩
  | 120 => ⟨S8, .i32⟩
  | 121 => ⟨S_, .i32⟩
  | 122 => ⟨S8, .i32⟩
  | 123 => ⟨S16x8192x8x64, .bf16⟩
  | 124 => ⟨S16x8192x8x64, .bf16⟩
  | 125 => ⟨S8x1, .bf16⟩
  | 126 => ⟨S8x1, .bf16⟩
  | 127 => ⟨S16x1x8x8x64, .bf16⟩
  | _ => ⟨S16x1x4096, .bf16⟩

abbrev hbmTy0_1 (i : Nat) : BufTy := match i % 128 with
  | 0 => ⟨S_, .i32⟩
  | 1 => ⟨S16x8x8x1, .f32⟩
  | 2 => ⟨S16x8x8x1, .f32⟩
  | 3 => ⟨S16x8x8x1x64, .f32⟩
  | 4 => ⟨S_, .i32⟩
  | 5 => ⟨S_, .i1⟩
  | 6 => ⟨S1, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S16x1024x8x64, .bf16⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S16x1024x8x64, .bf16⟩
  | 30 => ⟨S1x1x8x1, .bf16⟩
  | 31 => ⟨S16x1024x8x64, .bf16⟩
  | 32 => ⟨S16x1024x8x64, .bf16⟩
  | 33 => ⟨S1x1x8x1, .bf16⟩
  | 34 => ⟨S16x1024x8x64, .bf16⟩
  | 35 => ⟨S16x1024x8x64, .bf16⟩
  | 36 => ⟨S16x8x1024x1x8, .f32⟩
  | 37 => ⟨S16x8x8x1x1024, .f32⟩
  | 38 => ⟨S_, .f32⟩
  | 39 => ⟨S16x8x8x1x1024, .f32⟩
  | 40 => ⟨S16x8x8x1x1024, .f32⟩
  | 41 => ⟨S_, .f32⟩
  | 42 => ⟨S16x8x8x1, .f32⟩
  | 43 => ⟨S16x8x8x1, .f32⟩
  | 44 => ⟨S16x8x8x1, .f32⟩
  | 45 => ⟨S16x8x8x1, .f32⟩
  | 46 => ⟨S16x8x8x1x1, .f32⟩
  | 47 => ⟨S16x8x8x1x1024, .f32⟩
  | 48 => ⟨S16x8x8x1x1024, .f32⟩
  | 49 => ⟨S16x8x8x1x1024, .f32⟩
  | 50 => ⟨S16x8x8x1, .f32⟩
  | 51 => ⟨S_, .f32⟩
  | 52 => ⟨S16x8x8x1, .f32⟩
  | 53 => ⟨S16x8x8x1, .f32⟩
  | 54 => ⟨S16x8x8x1x1024, .bf16⟩
  | 55 => ⟨S16x8x8x1x64, .f32⟩
  | 56 => ⟨S16x8x8x1x1, .f32⟩
  | 57 => ⟨S16x8x8x1x64, .f32⟩
  | 58 => ⟨S16x8x8x1x64, .f32⟩
  | 59 => ⟨S16x8x8x1x64, .f32⟩
  | 60 => ⟨S_, .i32⟩
  | 61 => ⟨S_, .i32⟩
  | 62 => ⟨S_, .i1⟩
  | 63 => ⟨S1x1, .i1⟩
  | 64 => ⟨S1x1, .i32⟩
  | 65 => ⟨S_, .i32⟩
  | 66 => ⟨S1x1, .i32⟩
  | 67 => ⟨S1x1, .i32⟩
  | 68 => ⟨S1x1, .i32⟩
  | 69 => ⟨S1x1, .i1⟩
  | 70 => ⟨S_, .i1⟩
  | 71 => ⟨S1x1, .i1⟩
  | 72 => ⟨S1x1, .i1⟩
  | 73 => ⟨S1x1x1x1x1, .i1⟩
  | 74 => ⟨S1x1x8x1, .bf16⟩
  | 75 => ⟨S16x1x8x64, .bf16⟩
  | 76 => ⟨S16x1x8x64, .bf16⟩
  | 77 => ⟨S1x1x8x1, .bf16⟩
  | 78 => ⟨S16x1x8x64, .bf16⟩
  | 79 => ⟨S16x1x8x64, .bf16⟩
  | 80 => ⟨S16x8x1x1x8, .f32⟩
  | 81 => ⟨S16x8x8x1x1, .f32⟩
  | 82 => ⟨S_, .f32⟩
  | 83 => ⟨S16x8x8x1x1, .f32⟩
  | 84 => ⟨S16x8x8x1x1, .f32⟩
  | 85 => ⟨S_, .f32⟩
  | 86 => ⟨S_, .f32⟩
  | 87 => ⟨S16x8x8x1x1, .i1⟩
  | 88 => ⟨S16x8x8x1x1, .f32⟩
  | 89 => ⟨S16x8x8x1x1, .f32⟩
  | 90 => ⟨S_, .f32⟩
  | 91 => ⟨S16x8x8x1, .f32⟩
  | 92 => ⟨S16x8x8x1, .f32⟩
  | 93 => ⟨S16x8x8x1, .f32⟩
  | 94 => ⟨S16x8x8x1, .f32⟩
  | 95 => ⟨S16x8x8x1x1, .f32⟩
  | 96 => ⟨S16x8x8x1x1, .f32⟩
  | 97 => ⟨S16x8x8x1x1, .f32⟩
  | 98 => ⟨S16x8x8x1, .f32⟩
  | 99 => ⟨S_, .f32⟩
  | 100 => ⟨S16x8x8x1, .f32⟩
  | 101 => ⟨S16x8x8x1, .f32⟩
  | 102 => ⟨S16x8x8x1x1, .bf16⟩
  | 103 => ⟨S16x8x8x1x64, .f32⟩
  | 104 => ⟨S16x8x8x1x1, .f32⟩
  | 105 => ⟨S16x8x8x1x64, .f32⟩
  | 106 => ⟨S16x8x8x1x64, .f32⟩
  | 107 => ⟨S16x8x8x1x64, .f32⟩
  | 108 => ⟨S16x8x8x1x1, .f32⟩
  | 109 => ⟨S16x8x8x1x64, .f32⟩
  | 110 => ⟨S16x8x8x1x64, .f32⟩
  | 111 => ⟨S16x1x8x8x64, .f32⟩
  | 112 => ⟨S16x64x64, .f32⟩
  | 113 => ⟨S16x64x64, .bf16⟩
  | 114 => ⟨S16x8x64, .fp8e4m3⟩
  | 115 => ⟨S16x8x64, .fp8e4m3⟩
  | _ => ⟨S16x1x4096, .bf16⟩

abbrev hbmTy (i : Nat) : BufTy := match i / 128 with
  | 0 => hbmTy0_0 i
  | 1 => hbmTy0_1 i
  | _ => ⟨S16x1x4096, .bf16⟩

abbrev bufTy : (tb : Table) → Fin (tcTables nBuf tb) → BufTy
  | .hbm, ⟨i, _⟩ => hbmTy i
  | .local _ .vmem, ⟨0, _⟩ => ⟨S16x1x8x64, .f32⟩
  | .local _ .vmem, ⟨1, _⟩ => ⟨S16x1x8x64, .f32⟩
  | .local _ .vmem, ⟨2, _⟩ => ⟨S16x8192x8x64, .fp8e4m3⟩
  | .local _ .vmem, ⟨3, _⟩ => ⟨S16x8192x8x64, .fp8e4m3⟩
  | .local _ .vmem, ⟨4, _⟩ => ⟨S16x1x8x64, .fp8e4m3⟩
  | .local _ .vmem, ⟨5, _⟩ => ⟨S16x1x8x64, .fp8e4m3⟩
  | .local _ .vmem, ⟨6, _⟩ => ⟨S16x1x8x64, .bf16⟩
  | .local _ .vmem, ⟨7, _⟩ => ⟨S16x1x8x64, .bf16⟩
  | .local _ .vmem, ⟨8, _⟩ => ⟨S16x8192x8x64, .bf16⟩
  | .local _ .vmem, ⟨9, _⟩ => ⟨S16x8192x8x64, .bf16⟩
  | _, _ => ⟨S16x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_8 : Ref sig .tc := ⟨.hbm, 48, rfl⟩
abbrev main_cst_9 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_10 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_11 : Ref sig .tc := ⟨.hbm, 64, rfl⟩
abbrev main_v36 : Ref sig .tc := ⟨.hbm, 65, rfl⟩
abbrev main_v37 : Ref sig .tc := ⟨.hbm, 66, rfl⟩
abbrev main_cst_12 : Ref sig .tc := ⟨.hbm, 67, rfl⟩
abbrev main_v38 : Ref sig .tc := ⟨.hbm, 68, rfl⟩
abbrev main_v39 : Ref sig .tc := ⟨.hbm, 69, rfl⟩
abbrev main_cst_13 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_14 : Ref sig .tc := ⟨.hbm, 74, rfl⟩
abbrev main_call3_v0 : Ref sig .tc := ⟨.hbm, 75, rfl⟩
abbrev main_call3_v1 : Ref sig .tc := ⟨.hbm, 76, rfl⟩
abbrev main_v43 : Ref sig .tc := ⟨.hbm, 77, rfl⟩
abbrev main_cst_15 : Ref sig .tc := ⟨.hbm, 78, rfl⟩
abbrev main_v44 : Ref sig .tc := ⟨.hbm, 79, rfl⟩
abbrev main_v45 : Ref sig .tc := ⟨.hbm, 80, rfl⟩
abbrev main_cst_16 : Ref sig .tc := ⟨.hbm, 81, rfl⟩
abbrev main_v46 : Ref sig .tc := ⟨.hbm, 82, rfl⟩
abbrev main_v47 : Ref sig .tc := ⟨.hbm, 83, rfl⟩
abbrev main_cst_17 : Ref sig .tc := ⟨.hbm, 84, rfl⟩
abbrev main_v48 : Ref sig .tc := ⟨.hbm, 85, rfl⟩
abbrev main_v49 : Ref sig .tc := ⟨.hbm, 86, rfl⟩
abbrev main_cst_18 : Ref sig .tc := ⟨.hbm, 87, rfl⟩
abbrev main_call4_v0 : Ref sig .tc := ⟨.hbm, 88, rfl⟩
abbrev main_call4_v1 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_19 : Ref sig .tc := ⟨.hbm, 96, rfl⟩
abbrev main_cst_20 : Ref sig .tc := ⟨.hbm, 97, rfl⟩
abbrev main_call5_v0 : Ref sig .tc := ⟨.hbm, 98, rfl⟩
abbrev main_call5_v1 : Ref sig .tc := ⟨.hbm, 99, rfl⟩
abbrev main_call5_v2 : Ref sig .tc := ⟨.hbm, 100, rfl⟩
abbrev main_call5_v3 : Ref sig .tc := ⟨.hbm, 101, rfl⟩
abbrev main_call5_v4 : Ref sig .tc := ⟨.hbm, 102, rfl⟩
abbrev main_v56 : Ref sig .tc := ⟨.hbm, 103, rfl⟩
abbrev main_v57_0 : Ref sig .tc := ⟨.hbm, 104, rfl⟩
abbrev main_v57_1 : Ref sig .tc := ⟨.hbm, 105, rfl⟩
abbrev main_v57_2 : Ref sig .tc := ⟨.hbm, 106, rfl⟩
abbrev main_v57_3 : Ref sig .tc := ⟨.hbm, 107, rfl⟩
abbrev main_v57_4 : Ref sig .tc := ⟨.hbm, 108, rfl⟩
abbrev main_v57_5 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst_21 : Ref sig .tc := ⟨.hbm, 114, rfl⟩
abbrev main_v62 : Ref sig .tc := ⟨.hbm, 115, rfl⟩
abbrev main_cst_22 : Ref sig .tc := ⟨.hbm, 116, rfl⟩
abbrev main_v63 : Ref sig .tc := ⟨.hbm, 117, rfl⟩
abbrev main_cst_23 : Ref sig .tc := ⟨.hbm, 118, rfl⟩
abbrev main_v64 : Ref sig .tc := ⟨.hbm, 119, rfl⟩
abbrev main_v65 : Ref sig .tc := ⟨.hbm, 120, rfl⟩
abbrev main_c : Ref sig .tc := ⟨.hbm, 121, rfl⟩
abbrev main_v66_0 : Ref sig .tc := ⟨.hbm, 122, rfl⟩
abbrev main_v66_1 : Ref sig .tc := ⟨.hbm, 123, rfl⟩
abbrev main_v66_2 : Ref sig .tc := ⟨.hbm, 124, rfl⟩
abbrev main_v66_3 : Ref sig .tc := ⟨.hbm, 125, rfl⟩
abbrev main_v66_4 : Ref sig .tc := ⟨.hbm, 126, rfl⟩
abbrev main_v66_5 : Ref sig .tc := ⟨.hbm, 127, rfl⟩
abbrev main_v66_6 : Ref sig .tc := ⟨.hbm, 128, rfl⟩
abbrev main_v66_7 : Ref sig .tc := ⟨.hbm, 129, rfl⟩
abbrev main_v66_8 : Ref sig .tc := ⟨.hbm, 130, rfl⟩
abbrev main_v66_9 : Ref sig .tc := ⟨.hbm, 131, rfl⟩
abbrev main_while0c_c_38 : Ref sig .tc := ⟨.hbm, 132, rfl⟩
abbrev main_while0c_v105 : Ref sig .tc := ⟨.hbm, 133, rfl⟩
abbrev main_while0b_call6_v0 : Ref sig .tc := ⟨.hbm, 134, rfl⟩
abbrev main_while0b_v105 : Ref sig .tc := ⟨.hbm, 135, rfl⟩
abbrev main_while0b_c_38 : Ref sig .tc := ⟨.hbm, 136, rfl⟩
abbrev main_while0b_v106 : Ref sig .tc := ⟨.hbm, 137, rfl⟩
abbrev main_while0b_c_39 : Ref sig .tc := ⟨.hbm, 138, rfl⟩
abbrev main_while0b_v107 : Ref sig .tc := ⟨.hbm, 139, rfl⟩
abbrev main_while0b_c_40 : Ref sig .tc := ⟨.hbm, 140, rfl⟩
abbrev main_while0b_v108 : Ref sig .tc := ⟨.hbm, 141, rfl⟩
abbrev main_while0b_v109 : Ref sig .tc := ⟨.hbm, 142, rfl⟩
abbrev main_while0b_c_41 : Ref sig .tc := ⟨.hbm, 143, rfl⟩
abbrev main_while0b_c_42 : Ref sig .tc := ⟨.hbm, 144, rfl⟩
abbrev main_while0b_c_43 : Ref sig .tc := ⟨.hbm, 145, rfl⟩
abbrev main_while0b_v110 : Ref sig .tc := ⟨.hbm, 146, rfl⟩
abbrev main_while0b_c_44 : Ref sig .tc := ⟨.hbm, 147, rfl⟩
abbrev main_while0b_v111 : Ref sig .tc := ⟨.hbm, 148, rfl⟩
abbrev main_while0b_c_45 : Ref sig .tc := ⟨.hbm, 149, rfl⟩
abbrev main_while0b_v112 : Ref sig .tc := ⟨.hbm, 150, rfl⟩
abbrev main_while0b_c_46 : Ref sig .tc := ⟨.hbm, 151, rfl⟩
abbrev main_while0b_v113 : Ref sig .tc := ⟨.hbm, 152, rfl⟩
abbrev main_while0b_v114 : Ref sig .tc := ⟨.hbm, 153, rfl⟩
abbrev main_while0b_c_47 : Ref sig .tc := ⟨.hbm, 154, rfl⟩
abbrev main_while0b_c_48 : Ref sig .tc := ⟨.hbm, 155, rfl⟩
abbrev main_while0b_c_49 : Ref sig .tc := ⟨.hbm, 156, rfl⟩
abbrev main_while0b_v115 : Ref sig .tc := ⟨.hbm, 157, rfl⟩
abbrev main_while0b_v116 : Ref sig .tc := ⟨.hbm, 158, rfl⟩
abbrev main_while0b_v117 : Ref sig .tc := ⟨.hbm, 159, rfl⟩
abbrev main_while0b_v118 : Ref sig .tc := ⟨.hbm, 160, rfl⟩
abbrev main_while0b_v119 : Ref sig .tc := ⟨.hbm, 161, rfl⟩
abbrev main_while0b_v120 : Ref sig .tc := ⟨.hbm, 162, rfl⟩
abbrev main_while0b_v121 : Ref sig .tc := ⟨.hbm, 163, rfl⟩
abbrev main_while0b_v122 : Ref sig .tc := ⟨.hbm, 164, rfl⟩
abbrev main_while0b_v123 : Ref sig .tc := ⟨.hbm, 165, rfl⟩
abbrev main_while0b_cst_50 : Ref sig .tc := ⟨.hbm, 166, rfl⟩
abbrev main_while0b_v124 : Ref sig .tc := ⟨.hbm, 167, rfl⟩
abbrev main_while0b_v125 : Ref sig .tc := ⟨.hbm, 168, rfl⟩
abbrev main_while0b_cst_51 : Ref sig .tc := ⟨.hbm, 169, rfl⟩
abbrev main_while0b_v126 : Ref sig .tc := ⟨.hbm, 170, rfl⟩
abbrev main_while0b_v127 : Ref sig .tc := ⟨.hbm, 171, rfl⟩
abbrev main_while0b_v128 : Ref sig .tc := ⟨.hbm, 172, rfl⟩
abbrev main_while0b_v129 : Ref sig .tc := ⟨.hbm, 173, rfl⟩
abbrev main_while0b_v130 : Ref sig .tc := ⟨.hbm, 174, rfl⟩
abbrev main_while0b_v131 : Ref sig .tc := ⟨.hbm, 175, rfl⟩
abbrev main_while0b_v132 : Ref sig .tc := ⟨.hbm, 176, rfl⟩
abbrev main_while0b_v133 : Ref sig .tc := ⟨.hbm, 177, rfl⟩
abbrev main_while0b_v134 : Ref sig .tc := ⟨.hbm, 178, rfl⟩
abbrev main_while0b_cst_52 : Ref sig .tc := ⟨.hbm, 179, rfl⟩
abbrev main_while0b_v135 : Ref sig .tc := ⟨.hbm, 180, rfl⟩
abbrev main_while0b_v136 : Ref sig .tc := ⟨.hbm, 181, rfl⟩
abbrev main_while0b_v137 : Ref sig .tc := ⟨.hbm, 182, rfl⟩
abbrev main_while0b_v138 : Ref sig .tc := ⟨.hbm, 183, rfl⟩
abbrev main_while0b_v139 : Ref sig .tc := ⟨.hbm, 184, rfl⟩
abbrev main_while0b_v140 : Ref sig .tc := ⟨.hbm, 185, rfl⟩
abbrev main_while0b_v141 : Ref sig .tc := ⟨.hbm, 186, rfl⟩
abbrev main_while0b_v142 : Ref sig .tc := ⟨.hbm, 187, rfl⟩
abbrev main_while0b_c_53 : Ref sig .tc := ⟨.hbm, 188, rfl⟩
abbrev main_while0b_v143 : Ref sig .tc := ⟨.hbm, 189, rfl⟩
abbrev main_c_24 : Ref sig .tc := ⟨.hbm, 190, rfl⟩
abbrev main_v67 : Ref sig .tc := ⟨.hbm, 191, rfl⟩
abbrev main_call7_v0 : Ref sig .tc := ⟨.hbm, 192, rfl⟩
abbrev main_call7_c : Ref sig .tc := ⟨.hbm, 193, rfl⟩
abbrev main_call7_v1 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_call7_c_0 : Ref sig .tc := ⟨.hbm, 198, rfl⟩
abbrev main_call7_v5 : Ref sig .tc := ⟨.hbm, 199, rfl⟩
abbrev main_v68 : Ref sig .tc := ⟨.hbm, 200, rfl⟩
abbrev main_v69 : Ref sig .tc := ⟨.hbm, 201, rfl⟩
abbrev main_v70 : Ref sig .tc := ⟨.hbm, 202, rfl⟩
abbrev main_v71 : Ref sig .tc := ⟨.hbm, 203, rfl⟩
abbrev main_v72 : Ref sig .tc := ⟨.hbm, 204, rfl⟩
abbrev main_v73 : Ref sig .tc := ⟨.hbm, 205, rfl⟩
abbrev main_v74 : Ref sig .tc := ⟨.hbm, 206, rfl⟩
abbrev main_v75 : Ref sig .tc := ⟨.hbm, 207, rfl⟩
abbrev main_v76 : Ref sig .tc := ⟨.hbm, 208, rfl⟩
abbrev main_v77 : Ref sig .tc := ⟨.hbm, 209, rfl⟩
abbrev main_cst_25 : Ref sig .tc := ⟨.hbm, 210, rfl⟩
abbrev main_v78 : Ref sig .tc := ⟨.hbm, 211, rfl⟩
abbrev main_v79 : Ref sig .tc := ⟨.hbm, 212, rfl⟩
abbrev main_cst_26 : Ref sig .tc := ⟨.hbm, 213, rfl⟩
abbrev main_call8_v0 : Ref sig .tc := ⟨.hbm, 214, rfl⟩
abbrev main_call8_v1 : Ref sig .tc := ⟨.hbm, 215, rfl⟩
abbrev main_call8_v2 : Ref sig .tc := ⟨.hbm, 216, rfl⟩
abbrev main_v80 : Ref sig .tc := ⟨.hbm, 217, rfl⟩
abbrev main_cst_27 : Ref sig .tc := ⟨.hbm, 218, rfl⟩
abbrev main_v81 : Ref sig .tc := ⟨.hbm, 219, rfl⟩
abbrev main_v82 : Ref sig .tc := ⟨.hbm, 220, rfl⟩
abbrev main_v83 : Ref sig .tc := ⟨.hbm, 221, rfl⟩
abbrev main_v84 : Ref sig .tc := ⟨.hbm, 222, rfl⟩
abbrev main_v85 : Ref sig .tc := ⟨.hbm, 223, rfl⟩
abbrev main_v86 : Ref sig .tc := ⟨.hbm, 224, rfl⟩
abbrev main_v87 : Ref sig .tc := ⟨.hbm, 225, rfl⟩
abbrev main_v88 : Ref sig .tc := ⟨.hbm, 226, rfl⟩
abbrev main_cst_28 : Ref sig .tc := ⟨.hbm, 227, rfl⟩
abbrev main_v89 : Ref sig .tc := ⟨.hbm, 228, rfl⟩
abbrev main_v90 : Ref sig .tc := ⟨.hbm, 229, rfl⟩
abbrev main_v91 : Ref sig .tc := ⟨.hbm, 230, rfl⟩
abbrev main_v92 : Ref sig .tc := ⟨.hbm, 231, rfl⟩
abbrev main_v93 : Ref sig .tc := ⟨.hbm, 232, rfl⟩
abbrev main_v94 : Ref sig .tc := ⟨.hbm, 233, rfl⟩
abbrev main_v95 : Ref sig .tc := ⟨.hbm, 234, rfl⟩
abbrev main_v96 : Ref sig .tc := ⟨.hbm, 235, rfl⟩
abbrev main_v97 : Ref sig .tc := ⟨.hbm, 236, rfl⟩
abbrev main_v98 : Ref sig .tc := ⟨.hbm, 237, rfl⟩
abbrev main_v99 : Ref sig .tc := ⟨.hbm, 238, rfl⟩
abbrev main_v100 : Ref sig .tc := ⟨.hbm, 239, rfl⟩
abbrev main_v101 : Ref sig .tc := ⟨.hbm, 240, rfl⟩
abbrev main_v102 : Ref sig .tc := ⟨.hbm, 241, rfl⟩
abbrev main_v103 : Ref sig .tc := ⟨.hbm, 242, rfl⟩
abbrev main_v104 : Ref sig .tc := ⟨.hbm, 243, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev main_while0_count : Scf.Loop 32 := ⟨0#32, 8#32, 1#32⟩

abbrev grid0 : Pipeline.Grid := .none

abbrev stage0_0 : Fin 1 → Memref sig .tc .vmem S16x1x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8192x8x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8192x8x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1x8x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1x8x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1x8x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1x8x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x8192x8x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x8192x8x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelDiag.lean ====
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem

/-- The kernel's floor division of a row number by 8, as the 32-bit word it computes. -/
theorem rowW (r : Fin 32) : Scalar.select
          (IntOp.andi
            (IntOp.cmpi CmpIPredicate.ne
              (IntOp.subi (BitVec.setWidth 32 (IntOp.cmpi CmpIPredicate.sgt (BitVec.ofNat 32 ↑r) 0#32))
                (BitVec.setWidth 32 (IntOp.cmpi CmpIPredicate.slt (BitVec.ofNat 32 ↑r) 0#32)))
              (Scalar.subi (Scalar.extui (Scalar.cmpi CmpIPredicate.sgt 8#32 0#32)) (Scalar.extui (Scalar.cmpi CmpIPredicate.slt 8#32 0#32))))
            (IntOp.cmpi CmpIPredicate.ne (IntOp.remsi ArithUnit.vector (BitVec.ofNat 32 ↑r) 8#32) 0#32))
          (IntOp.subi (IntOp.divsi ArithUnit.vector (BitVec.ofNat 32 ↑r) 8#32) 1#32)
          (IntOp.divsi ArithUnit.vector (BitVec.ofNat 32 ↑r) 8#32) = BitVec.ofNat 32 (r.val / 8) := by
  revert r; decide +kernel

/-- The kernel's floor division of a column number by 64, as the 32-bit word it computes. -/
theorem colW (k : Fin 256) : Scalar.select
          (IntOp.andi
            (IntOp.cmpi CmpIPredicate.ne
              (IntOp.subi (BitVec.setWidth 32 (IntOp.cmpi CmpIPredicate.sgt (BitVec.ofNat 32 ↑k) 0#32))
                (BitVec.setWidth 32 (IntOp.cmpi CmpIPredicate.slt (BitVec.ofNat 32 ↑k) 0#32)))
              (Scalar.subi (Scalar.extui (Scalar.cmpi CmpIPredicate.sgt 64#32 0#32)) (Scalar.extui (Scalar.cmpi CmpIPredicate.slt 64#32 0#32))))
            (IntOp.cmpi CmpIPredicate.ne (IntOp.remsi ArithUnit.vector (BitVec.ofNat 32 ↑k) 64#32) 0#32))
          (IntOp.subi (IntOp.divsi ArithUnit.vector (BitVec.ofNat 32 ↑k) 64#32) 1#32)
          (IntOp.divsi ArithUnit.vector (BitVec.ofNat 32 ↑k) 64#32) = BitVec.ofNat 32 (k.val / 64) := by
  revert k; decide +kernel

/-- The same with the divisor's sign already computed. -/
theorem colW' (k : Fin 256) : Scalar.select
          (IntOp.andi
            (IntOp.cmpi CmpIPredicate.ne
              (IntOp.subi (BitVec.setWidth 32 (IntOp.cmpi CmpIPredicate.sgt (BitVec.ofNat 32 ↑k) 0#32))
                (BitVec.setWidth 32 (IntOp.cmpi CmpIPredicate.slt (BitVec.ofNat 32 ↑k) 0#32)))
              (1#32))
            (IntOp.cmpi CmpIPredicate.ne (IntOp.remsi ArithUnit.vector (BitVec.ofNat 32 ↑k) 64#32) 0#32))
          (IntOp.subi (IntOp.divsi ArithUnit.vector (BitVec.ofNat 32 ↑k) 64#32) 1#32)
          (IntOp.divsi ArithUnit.vector (BitVec.ofNat 32 ↑k) 64#32) = BitVec.ofNat 32 (k.val / 64) := by
  revert k; decide +kernel

/-- The same for rows, with the divisor's sign already computed. -/
theorem rowW' (r : Fin 32) : Scalar.select
          (IntOp.andi
            (IntOp.cmpi CmpIPredicate.ne
              (IntOp.subi (BitVec.setWidth 32 (IntOp.cmpi CmpIPredicate.sgt (BitVec.ofNat 32 ↑r) 0#32))
                (BitVec.setWidth 32 (IntOp.cmpi CmpIPredicate.slt (BitVec.ofNat 32 ↑r) 0#32)))
              (1#32))
            (IntOp.cmpi CmpIPredicate.ne (IntOp.remsi ArithUnit.vector (BitVec.ofNat 32 ↑r) 8#32) 0#32))
          (IntOp.subi (IntOp.divsi ArithUnit.vector (BitVec.ofNat 32 ↑r) 8#32) 1#32)
          (IntOp.divsi ArithUnit.vector (BitVec.ofNat 32 ↑r) 8#32) = BitVec.ofNat 32 (r.val / 8) := by
  revert r; decide +kernel

/-- Comparing a row's group with a column's group selects the diagonal blocks. -/
theorem diagW (r : Fin 32) (k : Fin 256) {α : Type} (x y : α) :
    Scalar.select (IntOp.cmpi CmpIPredicate.eq (BitVec.ofNat 32 (r.val / 8)) (BitVec.ofNat 32 (k.val / 64))) x y
      = if r.val / 8 = k.val / 64 then x else y := by
  have h : ∀ a b : Fin 4, IntOp.cmpi CmpIPredicate.eq (BitVec.ofNat 32 a.val) (BitVec.ofNat 32 b.val) = if a.val = b.val then 1#1 else 0#1 := by
    decide +kernel
  have := h ⟨r.val / 8, by omega⟩ ⟨k.val / 64, by omega⟩
  simp only at this
  rw [this]
  split_ifs <;> rfl

/-- The first half's block-diagonal queries: row `r` holds head `r`'s query in the columns of its own group. -/
theorem qa (x0 : FVec Ideal S1x64x64 .bf16) (r : Fin 32) (k : Fin 256) :
    k0_pay7 (F := Ideal) (k0_pay3 x0) k0_pay4 (iota Kind.tc S32x256 32 [1] iota_S32x256_d1_w32) 64#32 k0_pay5 k0_pay6 1#32 (ix2 r k)
      = if r.val / 8 = k.val / 64 then x0 (ix3 0 ⟨r.val, by omega⟩ ⟨k.val % 64, by omega⟩) else 0 := by
  pointwise [k0_pay7, k0_pay3, k0_pay2, k0_pay4, k0_pay5, k0_pay6]
  rw [rowW, colW', diagW]
  refine if_congr Iff.rfl ?_ rfl
  have hk := k.isLt
  split_ifs <;> (refine congrArg x0 ?_; blk_ext)

/-- The second half's block-diagonal queries: row `r` holds head `32 + r`'s query in the columns of its own group. -/
theorem qb (x0 : FVec Ideal S1x64x64 .bf16) (r : Fin 32) (k : Fin 256) :
    k0_pay13 (F := Ideal) (k0_pay8 (k0_pay2 x0)) k0_pay9 (iota Kind.tc S32x256 32 [1] iota_S32x256_d1_w32) 64#32 k0_pay10 k0_pay11 k0_pay12 (ix2 r k)
      = if r.val / 8 = k.val / 64 then x0 (ix3 0 ⟨32 + r.val, by omega⟩ ⟨k.val % 64, by omega⟩) else 0 := by
  pointwise [k0_pay13, k0_pay8, k0_pay2, k0_pay9, k0_pay10, k0_pay11, k0_pay12]
  rw [rowW, colW, diagW]
  refine if_congr Iff.rfl ?_ rfl
  have hk := k.isLt
  split_ifs <;> (refine congrArg x0 ?_; blk_ext)

end Cert.KernelIdeal.Block

end
-- ==== Proof.Softmax.lean ====
module

public import Idealize.ShloMosaic.Lib.Pointwise

/-! The running (online) softmax and the two-pass softmax give the same values over the extended reals,
whatever the scores and the values are (infinite ones included). -/

@[expose] public section

noncomputable section

namespace Cert.Softmax

open Idealize.ShloMosaic

/-- The exponential of minus infinity is zero. -/
theorem exp_bot : Ideal.exp ⊥ = 0 := rfl
/-- The exponential of plus infinity is plus infinity. -/
theorem exp_top : Ideal.exp ⊤ = ⊤ := rfl
/-- The exponential of a real is the real exponential. -/
theorem exp_coe (r : ℝ) : Ideal.exp (r : EReal) = (Real.exp r : EReal) := rfl

/-- The exponential is nonnegative. -/
theorem exp_nonneg (x : EReal) : 0 ≤ Ideal.exp x := by
  induction x using EReal.rec with
  | bot => simp [exp_bot, exp_top, exp_coe]
  | top => simp [exp_bot, exp_top, exp_coe]
  | coe r => simp only [exp_coe]; exact_mod_cast (Real.exp_pos r).le

/-- The exponential of a difference `m - m'` with `m ≤ m'` is not `⊤`. -/
theorem exp_sub_ne_top {m m' : EReal} (h : m ≤ m') : Ideal.exp (m - m') ≠ ⊤ := by
  induction m' using EReal.rec with
  | bot => rw [le_bot_iff] at h; subst h; simp [exp_bot, exp_top, exp_coe]
  | top => simp [exp_bot, exp_top, sub_eq_add_neg]
  | coe b =>
    induction m using EReal.rec with
    | bot => simp [exp_bot, exp_top, exp_coe]
    | top => simp at h
    | coe a => rw [← EReal.coe_sub, exp_coe]; exact EReal.coe_ne_top _

/-- Rescaling from the maximum `m` to a larger `m'`: `exp (m - m') * exp (s - m) = exp (s - m')` for `s ≤ m ≤ m'`. -/
theorem exp_mul_exp {s m m' : EReal} (h : s ≤ m) (h' : m ≤ m') :
    Ideal.exp (m - m') * Ideal.exp (s - m) = Ideal.exp (s - m') := by
  induction m' using EReal.rec with
  | bot =>
    rw [le_bot_iff] at h'; subst h'; rw [le_bot_iff] at h; subst h; simp [exp_bot, exp_top, exp_coe]
  | top => simp [exp_bot, exp_top, sub_eq_add_neg]
  | coe c =>
    induction m using EReal.rec with
    | bot => rw [le_bot_iff] at h; subst h; simp [exp_bot, exp_top, exp_coe]
    | top => simp at h'
    | coe b =>
      induction s using EReal.rec with
      | bot => simp [exp_bot, exp_top, exp_coe]
      | top => simp at h
      | coe a =>
        rw [← EReal.coe_sub, ← EReal.coe_sub, ← EReal.coe_sub]
        simp only [exp_coe]
        rw [← EReal.coe_mul, ← Real.exp_add]
        congr 2; ring

/-- A nonnegative finite factor goes into a finite sum. -/
theorem mul_sum {ι : Type*} (a : EReal) (h0 : 0 ≤ a) (h1 : a ≠ ⊤) (s : Finset ι) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 h1, ih]

/-- The maximum of the scores of one block. -/
def top (s : Fin 1024 → EReal) : EReal := (Finset.univ : Finset (Fin 1024)).fold max ⊥ s

/-- A score is at most its block's maximum. -/
theorem le_top (s : Fin 1024 → EReal) (t : Fin 1024) : s t ≤ top s :=
  (Finset.le_fold_max (s t)).2 (.inr ⟨t, Finset.mem_univ t, le_rfl⟩)

/-- The running maximum before block `k`. -/
def om (s : ℕ → Fin 1024 → EReal) : ℕ → EReal
  | 0 => ⊥
  | k + 1 => max (om s k) (top (s k))

/-- The running sum of exponentials before block `k`. -/
def ol (s : ℕ → Fin 1024 → EReal) : ℕ → EReal
  | 0 => 0
  | k + 1 => Ideal.exp (om s k - om s (k + 1)) * ol s k + ∑ t, Ideal.exp (s k t - om s (k + 1))

/-- The running weighted sum of the values `v` before block `k`. -/
def oa (s v : ℕ → Fin 1024 → EReal) : ℕ → EReal
  | 0 => 0
  | k + 1 => Ideal.exp (om s k - om s (k + 1)) * oa s v k + ∑ t, Ideal.exp (s k t - om s (k + 1)) * v k t

/-- The running softmax's result: the new token's score `sn` and value `vn` taken last. -/
def online (s v : ℕ → Fin 1024 → EReal) (sn vn : EReal) : EReal :=
  Ideal.div
    (Ideal.exp (om s 8 - max (om s 8) sn) * oa s v 8 + Ideal.exp (sn - max (om s 8) sn) * vn)
    (Ideal.exp (om s 8 - max (om s 8) sn) * ol s 8 + Ideal.exp (sn - max (om s 8) sn))

/-- The maximum of all the scores, the new token's `sn` first. -/
def tm (s : ℕ → Fin 1024 → EReal) (sn : EReal) : EReal :=
  max (max (max (max (max (max (max (max sn (top (s 0))) (top (s 1))) (top (s 2))) (top (s 3))) (top (s 4))) (top (s 5))) (top (s 6))) (top (s 7))

/-- The two-pass softmax's denominator at the maximum `m`. -/
def tl (s : ℕ → Fin 1024 → EReal) (sn m : EReal) : EReal :=
  Ideal.exp (sn - m) + ∑ t, Ideal.exp (s 0 t - m) + ∑ t, Ideal.exp (s 1 t - m) + ∑ t, Ideal.exp (s 2 t - m) + ∑ t, Ideal.exp (s 3 t - m)
    + ∑ t, Ideal.exp (s 4 t - m) + ∑ t, Ideal.exp (s 5 t - m) + ∑ t, Ideal.exp (s 6 t - m) + ∑ t, Ideal.exp (s 7 t - m)

/-- The two-pass softmax's weighted sum of the cached values at the maximum `m`. -/
def ta (s v : ℕ → Fin 1024 → EReal) (m : EReal) : EReal :=
  ∑ t, v 0 t * Ideal.exp (s 0 t - m) + ∑ t, v 1 t * Ideal.exp (s 1 t - m) + ∑ t, v 2 t * Ideal.exp (s 2 t - m) + ∑ t, v 3 t * Ideal.exp (s 3 t - m)
    + ∑ t, v 4 t * Ideal.exp (s 4 t - m) + ∑ t, v 5 t * Ideal.exp (s 5 t - m) + ∑ t, v 6 t * Ideal.exp (s 6 t - m) + ∑ t, v 7 t * Ideal.exp (s 7 t - m)

/-- The two-pass softmax's result. -/
def twoPass (s v : ℕ → Fin 1024 → EReal) (sn vn : EReal) : EReal :=
  Ideal.div (ta s v (tm s sn) + Ideal.exp (sn - tm s sn) * vn) (tl s sn (tm s sn))

/-- The running maximum only grows. -/
theorem om_mono (s : ℕ → Fin 1024 → EReal) (k : ℕ) : om s k ≤ om s (k + 1) := le_max_left _ _

/-- A score of an earlier block is at most the running maximum. -/
theorem le_om (s : ℕ → Fin 1024 → EReal) {k c : ℕ} (h : c < k) (t : Fin 1024) : s c t ≤ om s k := by
  induction k with
  | zero => omega
  | succ k ih =>
    rcases Nat.lt_succ_iff_lt_or_eq.mp h with h | rfl
    · exact (ih h).trans (om_mono s k)
    · exact (le_top _ t).trans (le_max_right _ _)

/-- The running sum, rescaled to any larger maximum, is the sum of the exponentials at that maximum. -/
theorem ol_rescale (s : ℕ → Fin 1024 → EReal) (k : ℕ) : ∀ m', om s k ≤ m' →
    Ideal.exp (om s k - m') * ol s k = ∑ c ∈ Finset.range k, ∑ t, Ideal.exp (s c t - m') := by
  have key : ∀ k, ol s k = ∑ c ∈ Finset.range k, ∑ t, Ideal.exp (s c t - om s k) → ∀ m', om s k ≤ m' →
      Ideal.exp (om s k - m') * ol s k = ∑ c ∈ Finset.range k, ∑ t, Ideal.exp (s c t - m') := by
    intro k h m' hm
    rw [h, mul_sum _ (exp_nonneg _) (exp_sub_ne_top hm)]
    refine Finset.sum_congr rfl fun c hc => ?_
    rw [mul_sum _ (exp_nonneg _) (exp_sub_ne_top hm)]
    exact Finset.sum_congr rfl fun t _ => exp_mul_exp (le_om s (Finset.mem_range.mp hc) t) hm
  refine key k ?_
  induction k with
  | zero => simp [ol]
  | succ k ih => rw [ol, key k ih _ (om_mono s k), Finset.sum_range_succ]

/-- The running weighted sum, rescaled to any larger maximum, is the weighted sum at that maximum. -/
theorem oa_rescale (s v : ℕ → Fin 1024 → EReal) (k : ℕ) : ∀ m', om s k ≤ m' →
    Ideal.exp (om s k - m') * oa s v k = ∑ c ∈ Finset.range k, ∑ t, Ideal.exp (s c t - m') * v c t := by
  have key : ∀ k, oa s v k = ∑ c ∈ Finset.range k, ∑ t, Ideal.exp (s c t - om s k) * v c t → ∀ m', om s k ≤ m' →
      Ideal.exp (om s k - m') * oa s v k = ∑ c ∈ Finset.range k, ∑ t, Ideal.exp (s c t - m') * v c t := by
    intro k h m' hm
    rw [h, mul_sum _ (exp_nonneg _) (exp_sub_ne_top hm)]
    refine Finset.sum_congr rfl fun c hc => ?_
    rw [mul_sum _ (exp_nonneg _) (exp_sub_ne_top hm)]
    exact Finset.sum_congr rfl fun t _ => by rw [← mul_assoc, exp_mul_exp (le_om s (Finset.mem_range.mp hc) t) hm]
  refine key k ?_
  induction k with
  | zero => simp [oa]
  | succ k ih => rw [oa, key k ih _ (om_mono s k), Finset.sum_range_succ]

/-- The running softmax and the two-pass softmax are equal, for all scores and values. -/
theorem online_eq_twoPass (s v : ℕ → Fin 1024 → EReal) (sn vn : EReal) : online s v sn vn = twoPass s v sn vn := by
  have hm : max (om s 8) sn = tm s sn := by
    simp only [om, tm, bot_le, max_eq_right]
    ac_rfl
  have hle : om s 8 ≤ tm s sn := hm ▸ le_max_left _ _
  unfold online twoPass
  rw [hm, ol_rescale s 8 _ hle, oa_rescale s v 8 _ hle]
  refine congrArg₂ Ideal.div (congrArg (· + _) ?_) ?_
  · simp only [Finset.sum_range_succ, Finset.sum_range_zero, zero_add, ta, mul_comm]
  · simp only [Finset.sum_range_succ, Finset.sum_range_zero, zero_add, tl]
    ac_rfl

end Cert.Softmax

end
-- ==== Proof.KernelPay.lean ====
module

public import proofs.«01_k».proof.Proof.Gen.KernelIdeal.Skeleton
public import proofs.«01_k».proof.Proof.KernelDiag
public import proofs.«01_k».proof.Proof.Softmax
public import Idealize.ShloMosaic.Lib.Pointwise
public import Idealize.ShloMosaic.Lib.Pipeline.ValueKit

/-! What each step of the kernel's body computes, read at one index over the extended reals. -/

@[expose] public section

set_option maxRecDepth 16384

noncomputable section

namespace Cert.KernelIdeal.Block

open Cert.KernelIdeal Cert.KernelIdeal.Gen Idealize.ShloMosaic Idealize.ShloMosaic.TcCoe Idealize.SL.Sem

/-- The running maximum after one more block of scores. -/
theorem mx_at (m : FVec Ideal S64x1 .f32) (S : FVec Ideal S64x1024 .f32) (h : Fin 64) :
    k0_pay57 (F := Ideal) m S (ix2 h 0) = max (m (ix2 h 0)) (Softmax.top fun t => S (ix2 h t)) := by
  pointwise [k0_pay57]
  rfl

/-- The running sum after one more block of scores. -/
theorem sm_at (M l : FVec Ideal S64x1 .f32) (E : FVec Ideal S64x1024 .f32) (h : Fin 64) :
    k0_pay74 (F := Ideal) M l E (ix2 h 0) = l (ix2 h 0) + ∑ t : Fin 1024, Ideal.exp (E (ix2 h t) - M (ix2 h 0)) := by
  pointwise [k0_pay74, k0_pay73]

/-- Storing and reloading the scores changes nothing. -/
theorem e55_at (S : FVec Ideal S64x1024 .f32) (h : Fin 64) (t : Fin 1024) : k0_pay56 (F := Ideal) S (ix2 h t) = S (ix2 h t) := by
  pointwise [k0_pay56]

/-- The weight of the new token: the exponential of its score minus the maximum so far. -/
theorem p57_at (sn m : FVec Ideal S64x1 .f32) (S : FVec Ideal S64x1024 .f32) (h : Fin 64) :
    k0_pay58 (F := Ideal) sn m S (ix2 h 0) = Ideal.exp (sn (ix2 h 0) - k0_pay57 (F := Ideal) m S (ix2 h 0)) := by
  unfold k0_pay58
  pointwise []

/-- One chunk of the first half of heads: the accumulator plus the chunk's weighted sum of dequantized values. -/
theorem aA_at (M : FVec Ideal S64x1 .f32) (a : FVec Ideal S256x32 .f32) (E : FVec Ideal S64x1024 .f32) (V : Vec Ideal S1x256x1024 .fp8e4m3) (v : Vec Ideal S256x1 .f32)
    (r : Fin 256) (h : Fin 32) :
    k0_pay67 (F := Ideal) M a E V v (ix2 r h) = a (ix2 r h) + ∑ t : Fin 1024, (V (ix3 0 r t) * v (ix2 r 0)) * Ideal.exp (E (ix2 ⟨h.val, by omega⟩ t) - M (ix2 ⟨h.val, by omega⟩ 0)) := by
  pointwise [k0_pay67, k0_pay66, k0_pay65]

/-- One chunk of the second half of heads: the chunk's weighted sum of dequantized values. -/
theorem aB_at (M : FVec Ideal S64x1 .f32) (E : FVec Ideal S64x1024 .f32) (V : Vec Ideal S1x256x1024 .fp8e4m3) (v : Vec Ideal S256x1 .f32)
    (r : Fin 256) (h : Fin 32) :
    k0_pay82 (F := Ideal) M E V v (ix2 r h) = ∑ t : Fin 1024, (V (ix3 0 r t) * v (ix2 r 0)) * Ideal.exp (E (ix2 ⟨32 + h.val, by omega⟩ t) - M (ix2 ⟨32 + h.val, by omega⟩ 0)) := by
  pointwise [k0_pay82, k0_pay80, k0_pay78]

/-- A score of the cached keys of one block. -/
theorem sc_at (QA QB : FVec Ideal S32x256 .bf16) (A B : Vec Ideal S1x256x1024 .fp8e4m3) (c d : Vec Ideal S256x1 .f32) (h : Fin 64) (t : Fin 1024) :
    k0_pay55 (F := Ideal) QA QB A c B d (ix2 h t) =
      if hh : h.val < 32 then (∑ k : Fin 256, QA (ix2 ⟨h.val, hh⟩ k) * (A (ix3 0 k t) * c (ix2 k 0))) * Ideal.ofBits FTy.f32 1040187392#32
      else (∑ k : Fin 256, QB (ix2 ⟨h.val - 32, by omega⟩ k) * (B (ix3 0 k t) * d (ix2 k 0))) * Ideal.ofBits FTy.f32 1040187392#32 := by
  pointwise [k0_pay55]

/-- A row of a block-diagonal matrix times a column: only the row's own group of 64 columns counts. -/
theorem diag_sum (g : ℕ) (hg : g < 4) (f : Fin 64 → EReal) (y : Fin 256 → EReal) :
    ∑ k : Fin 256, (if g = k.val / 64 then f ⟨k.val % 64, Nat.mod_lt _ (by decide)⟩ else 0) * y k = ∑ e : Fin 64, f e * y ⟨g * 64 + e.val, by omega⟩ := by
  rw [← (finProdFinEquiv (m := 4) (n := 64)).sum_comp, Fintype.sum_prod_type, Finset.sum_eq_single ⟨g, hg⟩]
  · refine Finset.sum_congr rfl fun e _ => ?_
    have h1 : (finProdFinEquiv ((⟨g, hg⟩ : Fin 4), e)).val = e.val + 64 * g := rfl
    rw [if_pos (by rw [h1]; omega)]
    congr 2 <;> (apply Fin.ext; simp only [h1]; omega)
  · intro b _ hb
    refine Finset.sum_eq_zero fun e _ => ?_
    have h1 : (finProdFinEquiv ((b : Fin 4), e)).val = e.val + 64 * b.val := rfl
    rw [if_neg, zero_mul]
    intro h; apply hb; apply Fin.ext; simp only; rw [h1] at h; omega
  · intro h; exact absurd (Finset.mem_univ _) h

/-- The diagonal blocks of the first half's products, added up: row `r` takes its own group's entry. -/
theorem foldA_at (a : FVec Ideal S256x32 .f32) (r : Fin 32) (e : Fin 64) :
    k0_pay101 (F := Ideal) (k0_pay96 a) k0_pay97 (iota Kind.tc S32x256 32 [1] iota_S32x256_d1_w32) 64#32 k0_pay98 k0_pay99 k0_pay100 (ix2 r e)
      = a (ix2 ⟨(r.val / 8) * 64 + e.val, by omega⟩ r) := by
  pointwise [k0_pay101, k0_pay96, k0_pay97, k0_pay98, k0_pay99, k0_pay100]
  have c0 := colW ⟨e.val, by omega⟩
  have c1 := colW ⟨64 + e.val, by omega⟩
  have c2 := colW ⟨128 + e.val, by omega⟩
  have c3 := colW ⟨192 + e.val, by omega⟩
  have d0 : ∀ x y : EReal, _ := fun x y => diagW r ⟨e.val, by omega⟩ x y
  have d1 : ∀ x y : EReal, _ := fun x y => diagW r ⟨64 + e.val, by omega⟩ x y
  have d2 : ∀ x y : EReal, _ := fun x y => diagW r ⟨128 + e.val, by omega⟩ x y
  have d3 : ∀ x y : EReal, _ := fun x y => diagW r ⟨192 + e.val, by omega⟩ x y
  dsimp only at c0 c1 c2 c3 d0 d1 d2 d3
  rw [rowW, c0, c1, c2, c3, d0, d1, d2, d3]
  have he := e.isLt
  have hr := r.isLt
  rcases (show r.val / 8 = 0 ∨ r.val / 8 = 1 ∨ r.val / 8 = 2 ∨ r.val / 8 = 3 by omega) with h | h | h | h
  · rw [if_pos (by omega), if_neg (by omega), if_neg (by omega), if_neg (by omega)]
    simp only [h, zero_add, add_zero, zero_mul]
  · rw [if_neg (by omega), if_pos (by omega), if_neg (by omega), if_neg (by omega)]
    simp only [h, zero_add, add_zero, one_mul]
  · rw [if_neg (by omega), if_neg (by omega), if_pos (by omega), if_neg (by omega)]
    simp only [h, zero_add, add_zero]
  · rw [if_neg (by omega), if_neg (by omega), if_neg (by omega), if_pos (by omega)]
    simp only [h, zero_add, add_zero]

/-- The two halves' diagonal blocks, added up and put together. -/
theorem foldB_at (X : FVec Ideal S32x64 .f32) (b : FVec Ideal S256x32 .f32) (h : Fin 64) (e : Fin 64) :
    k0_pay106 (F := Ideal) X (k0_pay102 b) k0_pay103 k0_pay104 k0_pay105 (ix2 h e)
      = if hh : h.val < 32 then X (ix2 ⟨h.val, hh⟩ e) else b (ix2 ⟨((h.val - 32) / 8) * 64 + e.val, by omega⟩ ⟨h.val - 32, by omega⟩) := by
  pointwise [k0_pay106, k0_pay102, k0_pay103, k0_pay104, k0_pay105]
  by_cases hh : h.val < 32
  · simp only [hh, ↓reduceIte, ↓reduceDIte]
  simp only [hh, ↓reduceIte, ↓reduceDIte]
  generalize hr : (⟨h.val - 32, by omega⟩ : Fin 32) = r
  have hr' : h.val - 32 = r.val := by rw [← hr]
  have c0 := colW ⟨e.val, by omega⟩
  have c1 := colW ⟨64 + e.val, by omega⟩
  have c2 := colW ⟨128 + e.val, by omega⟩
  have c3 := colW ⟨192 + e.val, by omega⟩
  have d0 : ∀ x y : EReal, _ := fun x y => diagW r ⟨e.val, by omega⟩ x y
  have d1 : ∀ x y : EReal, _ := fun x y => diagW r ⟨64 + e.val, by omega⟩ x y
  have d2 : ∀ x y : EReal, _ := fun x y => diagW r ⟨128 + e.val, by omega⟩ x y
  have d3 : ∀ x y : EReal, _ := fun x y => diagW r ⟨192 + e.val, by omega⟩ x y
  dsimp only at c0 c1 c2 c3 d0 d1 d2 d3
  simp only [hr']
  rw [rowW, c0, c1, c2, c3, d0, d1, d2, d3]
  have he := e.isLt
  have hr := r.isLt
  rcases (show r.val / 8 = 0 ∨ r.val / 8 = 1 ∨ r.val / 8 = 2 ∨ r.val / 8 = 3 by omega) with h | h | h | h
  · rw [if_pos (by omega), if_neg (by omega), if_neg (by omega), if_neg (by omega)]
    simp only [h, zero_add, add_zero, zero_mul]
  · rw [if_neg (by omega), if_pos (by omega), if_neg (by omega), if_neg (by omega)]
    simp only [h, zero_add, add_zero, one_mul]
  · rw [if_neg (by omega), if_neg (by omega), if_pos (by omega), if_neg (by omega)]
    simp only [h, zero_add, add_zero]
  · rw [if_neg (by omega), if_neg (by omega), if_neg (by omega), if_pos (by omega)]
    simp only [h, zero_add, add_zero]

/-- The attention output: the cached values' part plus the new token's, over the denominator. -/
theorem out_at (L : FVec Ideal S64x1 .f32) (X : FVec Ideal S64x64 .f32) (P : FVec Ideal S64x1 .f32) (v : FVec Ideal S8x64 .f32) (h e : Fin 64) :
    k0_pay1 (F := Ideal) L X (k0_pay107 P) (k0_pay108 v) (ix3 0 h e)
      = Ideal.div (X (ix2 h e) + P (ix2 h 0) * v (ix2 ⟨h.val / 8, by omega⟩ e)) (L (ix2 h 0)) := by
  pointwise [k0_pay1, k0_pay107, k0_pay108]

/-- The new token's score. -/
theorem sn_at (x0 : Vec Ideal S1x64x64 .bf16) (C : FVec Ideal S8x64 .fp8e4m3) (x3 : Vec Ideal S8x1 .f32) (h : Fin 64) :
    k0_pay25 (F := Ideal) (k0_pay2 x0) C x3 (ix2 h 0)
      = (∑ e : Fin 64, x0 (ix3 0 h e) * (C (ix2 ⟨h.val / 8, by omega⟩ e) * x3 (ix2 ⟨h.val / 8, by omega⟩ 0))) * Ideal.ofBits FTy.f32 1040187392#32 := by
  pointwise [k0_pay25, k0_pay2]

/-- The new token's value, read back from its fp8 code. -/
theorem vn_at (X : FVec Ideal S8x64 .bf16) (i : FVec Ideal S8x1 .f32) (x4 : Vec Ideal S8x1 .f32) (g : Fin 8) (e : Fin 64) :
    k0_pay24 (F := Ideal) X i x4 (ix2 g e) = k0_pay21 (F := Ideal) X i (ix2 g e) * x4 (ix2 g 0) := by
  unfold k0_pay24
  pointwise []

end Cert.KernelIdeal.Block

end
-- ==== Proof.KernelCanon.lean ====
module

public import proofs.«01_k».proof.Proof.KernelPay
public import proofs.«01_k».proof.Proof.Gen.KernelIdeal.Frame
public import Idealize.ShloMosaic.Lib.Pointwise
public import Idealize.ShloMosaic.Lib.Pipeline.ValueKit
public import Idealize.ShloMosaic.Lib.Pipeline.ReadBack

/-! The kernel's body on one batch entry: its attention output is the two-pass softmax over the cached keys and the new
token. -/

@[expose] public section

set_option maxRecDepth 16384

noncomputable section

namespace Cert.KernelIdeal.Block

open Cert.KernelIdeal Cert.KernelIdeal.Gen Idealize.ShloMosaic Idealize.ShloMosaic.TcCoe Idealize.SL.Sem

/-! The body's steps are written in several forms, block by block; each is one of the forms read above. -/

/-- One more block of the second half's weighted values. -/
def addB (M : FVec Ideal S64x1 .f32) (a : FVec Ideal S256x32 .f32) (E : FVec Ideal S64x1024 .f32) (V : Vec Ideal S1x256x1024 .fp8e4m3) (v : Vec Ideal S256x1 .f32) : FVec Ideal S256x32 .f32 := addf a (k0_pay82 (F := Ideal) M E V v)

section
variable (QA QB : FVec Ideal S32x256 .bf16) (A B A' B' V W : Vec Ideal S1x256x1024 .fp8e4m3) (c d c' d' v w : Vec Ideal S256x1 .f32)
  (m M l sn : FVec Ideal S64x1 .f32) (a : FVec Ideal S256x32 .f32) (S E E' : FVec Ideal S64x1024 .f32)

/-- The kernel body's payload 29 is a composition of the payloads read elsewhere. -/
theorem c28 : k0_pay29 (F := Ideal) QA QB m (k0_pay26 (F := Ideal) A) c B d = k0_pay57 (F := Ideal) m (k0_pay55 (F := Ideal) QA QB A c B d) := rfl
/-- The kernel body's payload 33 is a composition of the payloads read elsewhere. -/
theorem c32 : k0_pay33 (F := Ideal) QB m (k0_pay30 (F := Ideal) QA A c) B d = k0_pay57 (F := Ideal) m (k0_pay55 (F := Ideal) QA QB A c B d) := rfl
/-- The kernel body's payload 38 is a composition of the payloads read elsewhere. -/
theorem c37 : k0_pay38 (F := Ideal) QB m (k0_pay34 (F := Ideal) QA A c) (k0_pay35 (F := Ideal) B d) (constant S32x1024 FTy.f32 0#32) = k0_pay57 (F := Ideal) m (k0_pay55 (F := Ideal) QA QB A c B d) := rfl
/-- The kernel body's payload 44 is a composition of the payloads read elsewhere. -/
theorem c43 : k0_pay44 (F := Ideal) QA QB m (k0_pay41 (F := Ideal) QA QB A c B d) A' c' B' d' = k0_pay57 (F := Ideal) (k0_pay57 (F := Ideal) m (k0_pay55 (F := Ideal) QA QB A c B d)) (k0_pay55 (F := Ideal) QA QB A' c' B' d') := rfl
/-- The kernel body's payload 49 is a composition of the payloads read elsewhere. -/
theorem c48 : k0_pay49 (F := Ideal) QA QB m (k0_pay45 (F := Ideal) A) (k0_pay46 (F := Ideal) c) B d = k0_pay57 (F := Ideal) m (k0_pay55 (F := Ideal) QA QB A c B d) := rfl
/-- The kernel body's payload 54 is a composition of the payloads read elsewhere. -/
theorem c53 : k0_pay54 (F := Ideal) QB m (k0_pay50 (F := Ideal) QA A c) (k0_pay51 (F := Ideal) B) d = k0_pay57 (F := Ideal) m (k0_pay55 (F := Ideal) QA QB A c B d) := rfl
/-- The kernel body's payload 28 is a composition of the payloads read elsewhere. -/
theorem c27 : k0_pay28 (F := Ideal) QA QB (k0_pay26 (F := Ideal) A) c B d = k0_pay56 (F := Ideal) (k0_pay55 (F := Ideal) QA QB A c B d) := rfl
/-- The kernel body's payload 32 is a composition of the payloads read elsewhere. -/
theorem c31 : k0_pay32 (F := Ideal) QB (k0_pay30 (F := Ideal) QA A c) B d = k0_pay56 (F := Ideal) (k0_pay55 (F := Ideal) QA QB A c B d) := rfl
/-- The kernel body's payload 37 is a composition of the payloads read elsewhere. -/
theorem c36 : k0_pay37 (F := Ideal) QB (k0_pay34 (F := Ideal) QA A c) (k0_pay35 (F := Ideal) B d) (constant S32x1024 FTy.f32 0#32) = k0_pay56 (F := Ideal) (k0_pay55 (F := Ideal) QA QB A c B d) := rfl
/-- The kernel body's payload 40 is a composition of the payloads read elsewhere. -/
theorem c39 : k0_pay40 (F := Ideal) QA QB A c B d = k0_pay56 (F := Ideal) (k0_pay55 (F := Ideal) QA QB A c B d) := rfl
/-- The kernel body's payload 43 is a composition of the payloads read elsewhere. -/
theorem c42 : k0_pay43 (F := Ideal) QA QB A c B d = k0_pay56 (F := Ideal) (k0_pay55 (F := Ideal) QA QB A c B d) := rfl
/-- The kernel body's payload 48 is a composition of the payloads read elsewhere. -/
theorem c47 : k0_pay48 (F := Ideal) QA QB (k0_pay45 (F := Ideal) A) (k0_pay46 (F := Ideal) c) B d = k0_pay56 (F := Ideal) (k0_pay55 (F := Ideal) QA QB A c B d) := rfl
/-- The kernel body's payload 53 is a composition of the payloads read elsewhere. -/
theorem c52 : k0_pay53 (F := Ideal) QB (k0_pay50 (F := Ideal) QA A c) (k0_pay51 (F := Ideal) B) d = k0_pay56 (F := Ideal) (k0_pay55 (F := Ideal) QA QB A c B d) := rfl
/-- The kernel body's payload 61 is a composition of the payloads read elsewhere. -/
theorem c60 : k0_pay61 (F := Ideal) sn m S E = k0_pay74 (F := Ideal) (k0_pay57 (F := Ideal) m S) (k0_pay58 (F := Ideal) sn m S) E := rfl
/-- The kernel body's payload 70 is a composition of the payloads read elsewhere. -/
theorem c69 : k0_pay70 (F := Ideal) M l E E' = k0_pay74 (F := Ideal) M (k0_pay74 (F := Ideal) M l E) E' := rfl
/-- The kernel body's payload 79 is a composition of the payloads read elsewhere. -/
theorem c78 : k0_pay79 (F := Ideal) M l E = k0_pay74 (F := Ideal) M l E := rfl
/-- The kernel body's payload 88 is a composition of the payloads read elsewhere. -/
theorem c87 : k0_pay88 (F := Ideal) M l E E' = k0_pay74 (F := Ideal) M (k0_pay74 (F := Ideal) M l E) E' := rfl
/-- The kernel body's payload 92 is a composition of the payloads read elsewhere. -/
theorem c91 : k0_pay92 (F := Ideal) M l E = k0_pay74 (F := Ideal) M l E := rfl
/-- The kernel body's payload 63 is a composition of the payloads read elsewhere. -/
theorem c62 : k0_pay63 (F := Ideal) m S E V v = k0_pay67 (F := Ideal) (k0_pay57 (F := Ideal) m S) (k0_pay59 (F := Ideal)) E V v := rfl
/-- The kernel body's payload 76 is a composition of the payloads read elsewhere. -/
theorem c75 : k0_pay76 (F := Ideal) M a (k0_pay71 (F := Ideal) M E) V v E' W w = k0_pay67 (F := Ideal) M (k0_pay67 (F := Ideal) M a E V v) E' W w := rfl
/-- The kernel body's payload 81 is a composition of the payloads read elsewhere. -/
theorem c80 : k0_pay81 (F := Ideal) M a E V v = k0_pay67 (F := Ideal) M a E V v := rfl
/-- The kernel body's payload 85 is a composition of the payloads read elsewhere. -/
theorem c84 : k0_pay85 (F := Ideal) M a E V v = k0_pay67 (F := Ideal) M a E V v := rfl
/-- The kernel body's payload 94 is a composition of the payloads read elsewhere. -/
theorem c93 : k0_pay94 (F := Ideal) M a (k0_pay89 (F := Ideal) M E) V v E' W w = k0_pay67 (F := Ideal) M (k0_pay67 (F := Ideal) M a E V v) E' W w := rfl
/-- The kernel body's payload 64 is a composition of the payloads read elsewhere. -/
theorem c63 : k0_pay64 (F := Ideal) m S E V v = k0_pay82 (F := Ideal) (k0_pay57 (F := Ideal) m S) E V v := rfl
/-- The kernel body's payload 68 is a composition of the payloads read elsewhere. -/
theorem c67 : k0_pay68 (F := Ideal) M a (k0_pay82 (F := Ideal) M E V v) E' W w = addB M (addB M a E V v) E' W w := rfl
/-- The kernel body's payload 72 is a composition of the payloads read elsewhere. -/
theorem c71 : k0_pay72 (F := Ideal) a (k0_pay71 (F := Ideal) M E) V v = addB M a E V v := rfl
/-- The kernel body's payload 77 is a composition of the payloads read elsewhere. -/
theorem c76 : k0_pay77 (F := Ideal) a (k0_pay75 (F := Ideal) M E) V v = addB M a E V v := rfl
/-- The kernel body's payload 86 is a composition of the payloads read elsewhere. -/
theorem c85 : k0_pay86 (F := Ideal) M a (k0_pay82 (F := Ideal) M E V v) E' W w = addB M (addB M a E V v) E' W w := rfl
/-- The kernel body's payload 90 is a composition of the payloads read elsewhere. -/
theorem c89 : k0_pay90 (F := Ideal) a (k0_pay89 (F := Ideal) M E) V v = addB M a E V v := rfl
/-- The kernel body's payload 95 is a composition of the payloads read elsewhere. -/
theorem c94 : k0_pay95 (F := Ideal) a (k0_pay93 (F := Ideal) M E) V v = addB M a E V v := rfl

end

end Cert.KernelIdeal.Block

end
-- ==== Proof.KernelAttn.lean ====
module

public import proofs.«01_k».proof.Proof.KernelCanon
public import proofs.«01_k».proof.Proof.Gen.KernelIdeal.Frame
public import Idealize.ShloMosaic.Lib.Pointwise
public import Idealize.ShloMosaic.Lib.Pipeline.ValueKit
public import Idealize.ShloMosaic.Lib.Pipeline.ReadBack

/-! The kernel's body on one batch entry: its attention output is the two-pass softmax over the cached keys and the new
token. -/

@[expose] public section

set_option maxRecDepth 16384

noncomputable section

namespace Cert.KernelIdeal.Block

open Cert.KernelIdeal Cert.KernelIdeal.Gen Idealize.ShloMosaic Idealize.ShloMosaic.TcCoe Idealize.SL.Sem

/-- The maximum of the new token's score and all cached ones. -/
abbrev M8 (sn : FVec Ideal S64x1 .f32) (S0 S1 S2 S3 S4 S5 S6 S7 : FVec Ideal S64x1024 .f32) : FVec Ideal S64x1 .f32 :=
  (k0_pay57 (F := Ideal) (k0_pay57 (F := Ideal) (k0_pay57 (F := Ideal) (k0_pay57 (F := Ideal) (k0_pay57 (F := Ideal) (k0_pay57 (F := Ideal) (k0_pay57 (F := Ideal) (k0_pay57 (F := Ideal) sn S0) S1) S2) S3) S4) S5) S6) S7)

/-- The denominator. -/
abbrev L8 (sn : FVec Ideal S64x1 .f32) (S0 S1 S2 S3 S4 S5 S6 S7 : FVec Ideal S64x1024 .f32) : FVec Ideal S64x1 .f32 :=
  (k0_pay74 (F := Ideal) (M8 sn S0 S1 S2 S3 S4 S5 S6 S7) (k0_pay74 (F := Ideal) (M8 sn S0 S1 S2 S3 S4 S5 S6 S7) (k0_pay74 (F := Ideal) (M8 sn S0 S1 S2 S3 S4 S5 S6 S7) (k0_pay74 (F := Ideal) (M8 sn S0 S1 S2 S3 S4 S5 S6 S7) (k0_pay74 (F := Ideal) (M8 sn S0 S1 S2 S3 S4 S5 S6 S7) (k0_pay74 (F := Ideal) (M8 sn S0 S1 S2 S3 S4 S5 S6 S7) (k0_pay74 (F := Ideal) (M8 sn S0 S1 S2 S3 S4 S5 S6 S7) (k0_pay74 (F := Ideal) (M8 sn S0 S1 S2 S3 S4 S5 S6 S7) (k0_pay58 (F := Ideal) sn (k0_pay57 (F := Ideal) (k0_pay57 (F := Ideal) (k0_pay57 (F := Ideal) (k0_pay57 (F := Ideal) (k0_pay57 (F := Ideal) (k0_pay57 (F := Ideal) (k0_pay57 (F := Ideal) sn S0) S1) S2) S3) S4) S5) S6) S7) (k0_pay56 S0)) (k0_pay56 S1)) (k0_pay56 S2)) (k0_pay56 S3)) (k0_pay56 S4)) (k0_pay56 S5)) (k0_pay56 S6)) (k0_pay56 S7))

/-- The first half's weighted values. -/
abbrev A8 (M : FVec Ideal S64x1 .f32) (S0 S1 S2 S3 S4 S5 S6 S7 : FVec Ideal S64x1024 .f32) (VA0 VA1 VA2 VA3 VA4 VA5 VA6 VA7 : Vec Ideal S1x256x1024 .fp8e4m3) (v : Vec Ideal S256x1 .f32) : FVec Ideal S256x32 .f32 :=
  (k0_pay67 (F := Ideal) M (k0_pay67 (F := Ideal) M (k0_pay67 (F := Ideal) M (k0_pay67 (F := Ideal) M (k0_pay67 (F := Ideal) M (k0_pay67 (F := Ideal) M (k0_pay67 (F := Ideal) M (k0_pay67 (F := Ideal) M (k0_pay59 (F := Ideal)) (k0_pay56 S0) VA0 v) (k0_pay56 S1) VA1 v) (k0_pay56 S2) VA2 v) (k0_pay56 S3) VA3 v) (k0_pay56 S4) VA4 v) (k0_pay56 S5) VA5 v) (k0_pay56 S6) VA6 v) (k0_pay56 S7) VA7 v)

/-- The second half's weighted values. -/
abbrev B8 (M : FVec Ideal S64x1 .f32) (S0 S1 S2 S3 S4 S5 S6 S7 : FVec Ideal S64x1024 .f32) (VB0 VB1 VB2 VB3 VB4 VB5 VB6 VB7 : Vec Ideal S1x256x1024 .fp8e4m3) (v : Vec Ideal S256x1 .f32) : FVec Ideal S256x32 .f32 :=
  (addB M (addB M (addB M (addB M (addB M (addB M (addB M (addB M (k0_pay59 (F := Ideal)) (k0_pay56 S0) VB0 v) (k0_pay56 S1) VB1 v) (k0_pay56 S2) VB2 v) (k0_pay56 S3) VB3 v) (k0_pay56 S4) VB4 v) (k0_pay56 S5) VB5 v) (k0_pay56 S6) VB6 v) (k0_pay56 S7) VB7 v)

/-- One chunk of the second half of heads: the accumulator plus the chunk's weighted sum of dequantized values. -/
theorem addB_at (M : FVec Ideal S64x1 .f32) (a : FVec Ideal S256x32 .f32) (E : FVec Ideal S64x1024 .f32) (V : Vec Ideal S1x256x1024 .fp8e4m3) (v : Vec Ideal S256x1 .f32)
    (r : Fin 256) (h : Fin 32) :
    addB M a E V v (ix2 r h) = a (ix2 r h) + ∑ t : Fin 1024, (V (ix3 0 r t) * v (ix2 r 0)) * Ideal.exp (E (ix2 ⟨32 + h.val, by omega⟩ t) - M (ix2 ⟨32 + h.val, by omega⟩ 0)) := by
  rw [← aB_at]; rfl

/-- The accumulator the kernel starts from is zero. -/
theorem z_at (r : Fin 256) (h : Fin 32) : k0_pay59 (F := Ideal) (ix2 r h) = 0 := by
  pointwise [k0_pay59]

/-- The maximum, read at a head. -/
theorem M8_at (sn : FVec Ideal S64x1 .f32) (S0 S1 S2 S3 S4 S5 S6 S7 : FVec Ideal S64x1024 .f32) (h : Fin 64) (s : ℕ → Fin 1024 → EReal)
    (h0 : ∀ t, S0 (ix2 h t) = s 0 t) (h1 : ∀ t, S1 (ix2 h t) = s 1 t) (h2 : ∀ t, S2 (ix2 h t) = s 2 t) (h3 : ∀ t, S3 (ix2 h t) = s 3 t) (h4 : ∀ t, S4 (ix2 h t) = s 4 t) (h5 : ∀ t, S5 (ix2 h t) = s 5 t) (h6 : ∀ t, S6 (ix2 h t) = s 6 t) (h7 : ∀ t, S7 (ix2 h t) = s 7 t) :
    M8 sn S0 S1 S2 S3 S4 S5 S6 S7 (ix2 h 0) = Softmax.tm s (sn (ix2 h 0)) := by
  unfold M8 Softmax.tm
  simp only [mx_at, h0, h1, h2, h3, h4, h5, h6, h7]

/-- The denominator, read at a head. -/
theorem L8_at (sn : FVec Ideal S64x1 .f32) (S0 S1 S2 S3 S4 S5 S6 S7 : FVec Ideal S64x1024 .f32) (h : Fin 64) (s : ℕ → Fin 1024 → EReal)
    (h0 : ∀ t, S0 (ix2 h t) = s 0 t) (h1 : ∀ t, S1 (ix2 h t) = s 1 t) (h2 : ∀ t, S2 (ix2 h t) = s 2 t) (h3 : ∀ t, S3 (ix2 h t) = s 3 t) (h4 : ∀ t, S4 (ix2 h t) = s 4 t) (h5 : ∀ t, S5 (ix2 h t) = s 5 t) (h6 : ∀ t, S6 (ix2 h t) = s 6 t) (h7 : ∀ t, S7 (ix2 h t) = s 7 t) :
    L8 sn S0 S1 S2 S3 S4 S5 S6 S7 (ix2 h 0) = Softmax.tl s (sn (ix2 h 0)) (Softmax.tm s (sn (ix2 h 0))) := by
  have hM := M8_at sn S0 S1 S2 S3 S4 S5 S6 S7 h s h0 h1 h2 h3 h4 h5 h6 h7
  have hM' : k0_pay57 (F := Ideal) (k0_pay57 (F := Ideal) (k0_pay57 (F := Ideal) (k0_pay57 (F := Ideal) (k0_pay57 (F := Ideal) (k0_pay57 (F := Ideal) (k0_pay57 (F := Ideal) (k0_pay57 (F := Ideal) sn S0) S1) S2) S3) S4) S5) S6) S7 (ix2 h 0) = Softmax.tm s (sn (ix2 h 0)) := hM
  unfold L8 Softmax.tl
  generalize M8 sn S0 S1 S2 S3 S4 S5 S6 S7 = M at hM ⊢
  simp only [sm_at, p57_at, e55_at, hM, hM', h0, h1, h2, h3, h4, h5, h6, h7]

/-- The first half's weighted values, read at a head. -/
theorem A8_at (M : FVec Ideal S64x1 .f32) (S0 S1 S2 S3 S4 S5 S6 S7 : FVec Ideal S64x1024 .f32) (VA0 VA1 VA2 VA3 VA4 VA5 VA6 VA7 : Vec Ideal S1x256x1024 .fp8e4m3) (w : Vec Ideal S256x1 .f32)
    (r : Fin 256) (h : Fin 32) (s v : ℕ → Fin 1024 → EReal)
    (h0 : ∀ t, S0 (ix2 ⟨h.val, by omega⟩ t) = s 0 t) (h1 : ∀ t, S1 (ix2 ⟨h.val, by omega⟩ t) = s 1 t) (h2 : ∀ t, S2 (ix2 ⟨h.val, by omega⟩ t) = s 2 t) (h3 : ∀ t, S3 (ix2 ⟨h.val, by omega⟩ t) = s 3 t) (h4 : ∀ t, S4 (ix2 ⟨h.val, by omega⟩ t) = s 4 t) (h5 : ∀ t, S5 (ix2 ⟨h.val, by omega⟩ t) = s 5 t) (h6 : ∀ t, S6 (ix2 ⟨h.val, by omega⟩ t) = s 6 t) (h7 : ∀ t, S7 (ix2 ⟨h.val, by omega⟩ t) = s 7 t)
    (g0 : ∀ t, VA0 (ix3 0 r t) * w (ix2 r 0) = v 0 t) (g1 : ∀ t, VA1 (ix3 0 r t) * w (ix2 r 0) = v 1 t) (g2 : ∀ t, VA2 (ix3 0 r t) * w (ix2 r 0) = v 2 t) (g3 : ∀ t, VA3 (ix3 0 r t) * w (ix2 r 0) = v 3 t) (g4 : ∀ t, VA4 (ix3 0 r t) * w (ix2 r 0) = v 4 t) (g5 : ∀ t, VA5 (ix3 0 r t) * w (ix2 r 0) = v 5 t) (g6 : ∀ t, VA6 (ix3 0 r t) * w (ix2 r 0) = v 6 t) (g7 : ∀ t, VA7 (ix3 0 r t) * w (ix2 r 0) = v 7 t) :
    A8 M S0 S1 S2 S3 S4 S5 S6 S7 VA0 VA1 VA2 VA3 VA4 VA5 VA6 VA7 w (ix2 r h) = Softmax.ta s v (M (ix2 ⟨h.val, by omega⟩ 0)) := by
  unfold A8 Softmax.ta
  simp only [aA_at, e55_at, z_at, zero_add, h0, g0, h1, g1, h2, g2, h3, g3, h4, g4, h5, g5, h6, g6, h7, g7]

/-- The second half's weighted values, read at a head. -/
theorem B8_at (M : FVec Ideal S64x1 .f32) (S0 S1 S2 S3 S4 S5 S6 S7 : FVec Ideal S64x1024 .f32) (VB0 VB1 VB2 VB3 VB4 VB5 VB6 VB7 : Vec Ideal S1x256x1024 .fp8e4m3) (w : Vec Ideal S256x1 .f32)
    (r : Fin 256) (h : Fin 32) (s v : ℕ → Fin 1024 → EReal)
    (h0 : ∀ t, S0 (ix2 ⟨32 + h.val, by omega⟩ t) = s 0 t) (h1 : ∀ t, S1 (ix2 ⟨32 + h.val, by omega⟩ t) = s 1 t) (h2 : ∀ t, S2 (ix2 ⟨32 + h.val, by omega⟩ t) = s 2 t) (h3 : ∀ t, S3 (ix2 ⟨32 + h.val, by omega⟩ t) = s 3 t) (h4 : ∀ t, S4 (ix2 ⟨32 + h.val, by omega⟩ t) = s 4 t) (h5 : ∀ t, S5 (ix2 ⟨32 + h.val, by omega⟩ t) = s 5 t) (h6 : ∀ t, S6 (ix2 ⟨32 + h.val, by omega⟩ t) = s 6 t) (h7 : ∀ t, S7 (ix2 ⟨32 + h.val, by omega⟩ t) = s 7 t)
    (g0 : ∀ t, VB0 (ix3 0 r t) * w (ix2 r 0) = v 0 t) (g1 : ∀ t, VB1 (ix3 0 r t) * w (ix2 r 0) = v 1 t) (g2 : ∀ t, VB2 (ix3 0 r t) * w (ix2 r 0) = v 2 t) (g3 : ∀ t, VB3 (ix3 0 r t) * w (ix2 r 0) = v 3 t) (g4 : ∀ t, VB4 (ix3 0 r t) * w (ix2 r 0) = v 4 t) (g5 : ∀ t, VB5 (ix3 0 r t) * w (ix2 r 0) = v 5 t) (g6 : ∀ t, VB6 (ix3 0 r t) * w (ix2 r 0) = v 6 t) (g7 : ∀ t, VB7 (ix3 0 r t) * w (ix2 r 0) = v 7 t) :
    B8 M S0 S1 S2 S3 S4 S5 S6 S7 VB0 VB1 VB2 VB3 VB4 VB5 VB6 VB7 w (ix2 r h) = Softmax.ta s v (M (ix2 ⟨32 + h.val, by omega⟩ 0)) := by
  unfold B8 Softmax.ta
  simp only [addB_at, e55_at, z_at, zero_add, h0, g0, h1, g1, h2, g2, h3, g3, h4, g4, h5, g5, h6, g6, h7, g7]

/-- The attention output from its parts: the denominator, the new token's weight and the weighted sums. -/
theorem core_at (L P : FVec Ideal S64x1 .f32) (A B : FVec Ideal S256x32 .f32) (vn : FVec Ideal S8x64 .f32) (h e : Fin 64) (s v : ℕ → Fin 1024 → EReal) (sn : EReal)
    (hL : L (ix2 h 0) = Softmax.tl s sn (Softmax.tm s sn)) (hP : P (ix2 h 0) = Ideal.exp (sn - Softmax.tm s sn))
    (hA : ∀ hh : h.val < 32, A (ix2 ⟨(h.val / 8) * 64 + e.val, by omega⟩ ⟨h.val, hh⟩) = Softmax.ta s v (Softmax.tm s sn))
    (hB : ∀ hh : ¬ h.val < 32, B (ix2 ⟨((h.val - 32) / 8) * 64 + e.val, by omega⟩ ⟨h.val - 32, by omega⟩) = Softmax.ta s v (Softmax.tm s sn)) :
    k0_pay1 (F := Ideal) L
      (k0_pay106 (k0_pay101 (k0_pay96 A) k0_pay97 (iota Kind.tc S32x256 32 [1] iota_S32x256_d1_w32) 64#32 k0_pay98 k0_pay99 k0_pay100)
        (k0_pay102 B) k0_pay103 k0_pay104 k0_pay105)
      (k0_pay107 P) (k0_pay108 vn) (ix3 0 h e)
      = Softmax.twoPass s v sn (vn (ix2 ⟨h.val / 8, by omega⟩ e)) := by
  rw [out_at, foldB_at, hL, hP]
  unfold Softmax.twoPass
  refine congrArg (fun z => Ideal.div (z + _) _) ?_
  split_ifs with hh
  · rw [foldA_at]; exact hA hh
  · exact hB hh

end Cert.KernelIdeal.Block

end
-- ==== Proof.Scale.lean ====
module

public import Idealize.ShloMosaic.Lib.Pointwise

/-! The power of two a new key or value is multiplied by before it is rounded to fp8: the kernel finds it by a minimum
over the powers of two not above the scale, the reference from the floor of the scale's base-two logarithm. Both are
the same extended real, for every scale. -/

@[expose] public section

set_option maxRecDepth 16384

noncomputable section

namespace Cert.Scale

open Idealize.ShloMosaic

/-- A power of two with an integer exponent, as an extended real. -/
def p2 (z : ℤ) : EReal := (((2 : ℝ) ^ z : ℝ) : EReal)

/-- Powers of two are ordered as their exponents. -/
theorem p2_le (y z : ℤ) : p2 y ≤ p2 z ↔ y ≤ z := by
  unfold p2; rw [EReal.coe_le_coe_iff]; exact zpow_le_zpow_iff_right₀ one_lt_two

/-- No power of two is negative. -/
theorem p2_nonneg (z : ℤ) : 0 ≤ p2 z := EReal.coe_nonneg.2 (zpow_pos two_pos z).le

/-- The word with exponent field `n` and nothing else is `2 ^ (n - 127)`. -/
theorem ofBits_exp (n : Fin 255) (hn : n.val ≠ 0) : Ideal.ofBits .f32 (BitVec.ofNat 32 (n.val * 8388608)) = p2 ((n.val : ℤ) - 127) := by
  have h : ∀ n : Fin 255, ((BitVec.ofNat 32 (n.val * 8388608)).extractLsb' 31 1 = 0#1)
      ∧ ((BitVec.ofNat 32 (n.val * 8388608)).extractLsb' 23 8).toNat = n.val
      ∧ ((BitVec.ofNat 32 (n.val * 8388608)).extractLsb' 0 23).toNat = 0 := by decide +kernel
  obtain ⟨h1, h2, h3⟩ := h n
  have hlt := n.isLt
  unfold Ideal.ofBits Ideal.ieee
  simp only [show 8 + 23 = 31 from rfl, h1, h2, h3]
  rw [if_neg (by omega), if_neg hn]
  unfold p2
  congr 1
  rw [show ((n.val : ℤ) - 127) = 23 + ((n.val : ℤ) - 127 - 23) by ring, zpow_add₀ (by norm_num : (2 : ℝ) ≠ 0)]
  norm_num

/-- The word of the least normal number, 2 to the minus 126. -/
theorem ofBits_min : Ideal.ofBits .f32 8388608#32 = p2 (-126) := ofBits_exp 1 (by decide)
/-- The word of 2 to the 127. -/
theorem ofBits_max : Ideal.ofBits .f32 2130706432#32 = p2 127 := ofBits_exp 254 (by decide)
/-- The word of 2. -/
theorem ofBits_two : Ideal.ofBits .f32 1073741824#32 = p2 1 := ofBits_exp 128 (by decide)
/-- The word of infinity. -/
theorem ofBits_top : Ideal.ofBits .f32 2139095040#32 = ⊤ := by simp [Ideal.ofBits, Ideal.ieee]
/-- The word of 127. -/
theorem ofBits_127 : Ideal.ofBits .f32 1123942400#32 = ((127 : ℝ) : EReal) := by
  simp [Ideal.ofBits, Ideal.ieee, -EReal.coe_mul]; norm_num

/-- The kernel's word for the `i`-th power of two. -/
theorem wordUp (i : Fin 256) : IntOp.shli ArithUnit.vector (BitVec.ofNat 32 i.val) 23#32 = BitVec.ofNat 32 (i.val * 8388608) := by
  revert i; decide +kernel

/-- The kernel's word for the inverse of the `i`-th power of two, for all entries but the last. -/
theorem wordDown (i : Fin 255) :
    IntOp.shli ArithUnit.vector (IntOp.subi (254#32) (BitVec.ofNat 32 i.val)) 23#32 = BitVec.ofNat 32 ((254 - i.val) * 8388608) := by
  revert i; decide +kernel

/-- The word of zero. -/
theorem ofBits_zero : Ideal.ofBits .f32 0#32 = 0 := by simp [Ideal.ofBits, Ideal.ieee]

/-- The kernel's inverse scale of a scale of size `a`, in the words it computes. -/
def kinv (a : EReal) : EReal :=
  if a < Ideal.ofBits .f32 2139095040#32 then
    if a < Ideal.ofBits .f32 8388608#32 then Ideal.ofBits .f32 1073741824#32
    else (Finset.univ : Finset (Fin 256)).fold min (Ideal.ofBits .f32 2139095040#32) fun x =>
      if Ideal.ofBits .f32 (IntOp.shli ArithUnit.vector (BitVec.ofNat 32 x.val) 23#32) ≤ a then
        Ideal.ofBits .f32 (IntOp.shli ArithUnit.vector (IntOp.subi (254#32) (BitVec.ofNat 32 x.val)) 23#32)
      else Ideal.ofBits .f32 2130706432#32
  else Ideal.ofBits .f32 1073741824#32

/-- The reference's exponent of a scale of size `a`. -/
def rexp (a : EReal) : EReal :=
  if a < Ideal.ofBits .f32 8388608#32 ∨ a = Ideal.ofBits .f32 2139095040#32 then 0
  else Ideal.liftRound Int.floor (Ideal.div (Ideal.log a) (Ideal.log (Ideal.ofBits .f32 1073741824#32))) + 1

/-- The reference's inverse scale of a scale of size `a`. -/
def rinv (a : EReal) : EReal :=
  if Ideal.ofBits .f32 1123942400#32 < rexp a then 0 else Ideal.pow (Ideal.ofBits .f32 1073741824#32) (1 - rexp a)

/-- The inverse of `2 ^ z` as the kernel's words hold it: zero for the largest `z`, 127. -/
def down (z : ℤ) : EReal := if z = 127 then 0 else p2 (-z)

/-- No inverse is negative. -/
theorem down_nonneg (z : ℤ) : 0 ≤ down z := by
  unfold down
  split_ifs
  · exact le_rfl
  · exact p2_nonneg _

/-- The inverses are ordered against the exponents. -/
theorem down_le {y z : ℤ} (h : y ≤ z) (hz : z ≤ 127) : down z ≤ down y := by
  by_cases hz' : z = 127
  · rw [down, if_pos hz']; exact down_nonneg y
  · rw [down, down, if_neg hz', if_neg (by omega), p2_le]; omega

/-- The word of the `i`-th inverse. -/
theorem ofBits_down (i : Fin 255) :
    Ideal.ofBits .f32 (IntOp.shli ArithUnit.vector (IntOp.subi (254#32) (BitVec.ofNat 32 i.val)) 23#32) = down (i.val - 127) := by
  rw [wordDown]
  have hi := i.isLt
  unfold down
  split_ifs with h
  · rw [show i.val = 254 by omega]; exact ofBits_zero
  · have e := ofBits_exp ⟨254 - i.val, by omega⟩ (by simp only; omega)
    simp only at e
    rw [e, show ((254 - i.val : ℕ) : ℤ) - 127 = -(i.val - 127) by omega]

/-- The kernel's table, read at a real size `r` of at least 2 to the minus 126: the entry of the greatest power of two
    that is not above `r`, where the powers of two not above `r` are those with exponent at most `N`. -/
theorem kinv_table (r : ℝ) (N : ℤ) (h0 : -126 ≤ N) (h : ∀ z : ℤ, p2 z ≤ (r : EReal) ↔ z ≤ N) : kinv (r : EReal) = down (min N 127) := by
  have hr : ¬ (r : EReal) < p2 (-126) := not_lt.2 ((h _).2 h0)
  unfold kinv
  rw [ofBits_min, if_neg hr, ofBits_top, if_pos (EReal.coe_lt_top r), ofBits_max]
  apply le_antisymm
  · refine (Finset.fold_min_le _).2 (.inr ⟨⟨(min N 127 + 127).toNat, by omega⟩, Finset.mem_univ _, ?_⟩)
    have e1 := ofBits_exp ⟨(min N 127 + 127).toNat, by omega⟩ (by simp only; omega)
    have e2 := ofBits_down ⟨(min N 127 + 127).toNat, by omega⟩
    simp only at e1 e2
    rw [wordUp, e1, if_pos ((h _).2 (by omega)), e2, show (((min N 127 + 127).toNat : ℕ) : ℤ) - 127 = min N 127 by omega]
  · refine (Finset.le_fold_min _).2 ⟨le_top, fun x _ => ?_⟩
    have hx := x.isLt
    have hmax : down (min N 127) ≤ p2 127 := by
      unfold down
      split_ifs with h'
      · exact p2_nonneg _
      · rw [p2_le]; omega
    by_cases h255 : x.val = 255
    · rw [wordUp, h255, show Ideal.ofBits .f32 (BitVec.ofNat 32 (255 * 8388608)) = ⊤ from ofBits_top,
        if_neg (not_le.2 (EReal.coe_lt_top r))]
      exact hmax
    split_ifs with hle
    · have e2 := ofBits_down ⟨x.val, by omega⟩
      simp only at e2
      rw [e2]
      by_cases hx0 : x.val = 0
      · exact down_le (by omega) (by omega)
      · have e1 := ofBits_exp ⟨x.val, by omega⟩ hx0
        simp only at e1
        rw [wordUp, e1, h] at hle
        exact down_le (by omega) (by omega)
    · exact hmax

/-- The logarithm of a positive real. -/
theorem log_coe {r : ℝ} (h : 0 < r) : Ideal.log (r : EReal) = (Real.log r : EReal) := by
  show (if r ≤ 0 then (⊥ : EReal) else (Real.log r : EReal)) = _
  rw [if_neg (not_le.2 h)]

/-- Two to an integer power. -/
theorem pow_two (z : ℤ) : Ideal.pow (p2 1) (((z : ℝ)) : EReal) = p2 z := by
  show ((Real.rpow ((2 : ℝ) ^ (1 : ℤ)) (z : ℝ) : ℝ) : EReal) = _
  rw [zpow_one]
  unfold p2
  congr 1
  exact Real.rpow_intCast 2 z

/-- Where the exponent is 0 the reference multiplies by 2. -/
theorem rinv_zero {a : EReal} (h : rexp a = 0) : rinv a = p2 1 := by
  unfold rinv
  rw [h, ofBits_127, if_neg (by exact_mod_cast (by norm_num : ¬ (127 : ℝ) < 0)), ofBits_two,
    show ((1 : EReal) - 0) = (((1 : ℤ) : ℝ) : EReal) by simp]
  exact pow_two 1

/-- The two inverse scales are equal. -/
theorem kinv_eq_rinv (a : EReal) : kinv a = rinv a := by
  by_cases ha : a < p2 (-126)
  · rw [rinv_zero (by unfold rexp; rw [ofBits_min, if_pos (.inl ha)])]
    unfold kinv
    rw [ofBits_min, ofBits_top, if_pos (ha.trans (EReal.coe_lt_top _)), if_pos ha, ofBits_two]
  induction a using EReal.rec with
  | bot => exact absurd (EReal.bot_lt_coe _) ha
  | top =>
    rw [rinv_zero (by unfold rexp; rw [ofBits_top, if_pos (.inr rfl)])]
    unfold kinv
    rw [ofBits_top, if_neg (lt_irrefl _), ofBits_two]
  | coe r =>
    have hl2 : (0 : ℝ) < Real.log 2 := Real.log_pos one_lt_two
    have hr : (2 : ℝ) ^ (-126 : ℤ) ≤ r := by
      unfold p2 at ha; rw [EReal.coe_lt_coe_iff] at ha; exact not_lt.1 ha
    have hr0 : 0 < r := lt_of_lt_of_le (by positivity) hr
    have key : ∀ z : ℤ, (2 : ℝ) ^ z ≤ r ↔ z ≤ ⌊Real.log r / Real.log 2⌋ := by
      intro z
      rw [Int.le_floor, le_div_iff₀ hl2, ← Real.log_zpow, Real.log_le_log_iff (by positivity) hr0]
    have hn : -126 ≤ ⌊Real.log r / Real.log 2⌋ := (key _).1 hr
    rw [kinv_table r ⌊Real.log r / Real.log 2⌋ hn fun z => by unfold p2; rw [EReal.coe_le_coe_iff, key]]
    have he : rexp (r : EReal) = (((⌊Real.log r / Real.log 2⌋ + 1 : ℤ) : ℝ) : EReal) := by
      unfold rexp
      rw [ofBits_min, ofBits_top, if_neg (by rintro (h | h); exacts [ha h, EReal.coe_ne_top r h]), ofBits_two,
        show Ideal.log (p2 1) = (Real.log 2 : EReal) by unfold p2; rw [log_coe (by positivity)]; simp,
        log_coe hr0, show Ideal.div (Real.log r : EReal) (Real.log 2 : EReal) = ((Real.log r / Real.log 2 : ℝ) : EReal) by
          unfold Ideal.div
          rw [if_neg (by exact_mod_cast hl2.ne'), ← EReal.coe_inv, ← EReal.coe_mul, div_eq_mul_inv],
        show Ideal.liftRound Int.floor ((Real.log r / Real.log 2 : ℝ) : EReal) = (((⌊Real.log r / Real.log 2⌋ : ℤ) : ℝ) : EReal) from rfl,
        show (1 : EReal) = ((1 : ℝ) : EReal) from rfl, ← EReal.coe_add]
      congr 1; push_cast; ring
    unfold rinv
    rw [he, ofBits_127, ofBits_two]
    generalize ⌊Real.log r / Real.log 2⌋ = n at hn ⊢
    by_cases h : n ≤ 126
    · rw [if_neg (by rw [EReal.coe_lt_coe_iff, not_lt]; exact_mod_cast (by omega : n + 1 ≤ 127)), min_eq_left (by omega),
        down, if_neg (by omega), ← pow_two]
      congr 1
      rw [show (1 : EReal) = ((1 : ℝ) : EReal) from rfl, ← EReal.coe_sub]
      congr 1; push_cast; ring
    · rw [if_pos (by rw [EReal.coe_lt_coe_iff]; exact_mod_cast (by omega : 127 < n + 1)), min_eq_right (by omega), down, if_pos rfl]

end Cert.Scale

end
-- ==== Proof.KernelScore.lean ====
module

public import proofs.«01_k».proof.Proof.KernelCanon
public import proofs.«01_k».proof.Proof.KernelAttn
public import proofs.«01_k».proof.Proof.Scale
public import proofs.«01_k».proof.Proof.Gen.KernelIdeal.Value
public import Idealize.ShloMosaic.Lib.Pointwise
public import Idealize.ShloMosaic.Lib.Pipeline.ValueKit
public import Idealize.ShloMosaic.Lib.Pipeline.ReadBack

/-! The three results of the kernel's body on one batch entry, entry by entry. -/

@[expose] public section

set_option maxRecDepth 16384

noncomputable section

namespace Cert.KernelIdeal.Block

open Cert.KernelIdeal Cert.KernelIdeal.Gen Idealize.ShloMosaic Idealize.ShloMosaic.TcCoe Idealize.SL.Sem

/-- The fp8 code of a value `x` at scale `s`. -/
def qcode (x s : EReal) : EReal :=
  min (Ideal.ofBits .f32 1138753536#32) (max (Ideal.ofBits .f32 3286237184#32) (x * Scale.kinv (FloatOps.absf (F := Ideal) (φ := .f32) s)))

/-- The factor on a score. -/
def scale : EReal := Ideal.ofBits FTy.f32 1040187392#32

/-- Head `h`'s score of cached key `1024 j + t`. -/
def sK (x0 : Vec Ideal S1x64x64 .bf16) (x5 : Vec Ideal S512x1 .f32) (x7 : Vec Ideal S1x512x8192 .fp8e4m3) (h : Fin 64) (j : ℕ) (t : Fin 1024) : EReal :=
  if hj : j < 8 then
    (∑ e : Fin 64, x0 (ix3 0 h e) * (x7 (ix3 0 ⟨(h.val / 8) * 64 + e.val, by omega⟩ ⟨j * 1024 + t.val, by omega⟩) * x5 (ix2 ⟨(h.val / 8) * 64 + e.val, by omega⟩ 0))) * scale
  else 0

/-- Channel `e` of head `h`'s cached value `1024 j + t`. -/
def vK (x6 : Vec Ideal S512x1 .f32) (x8 : Vec Ideal S1x512x8192 .fp8e4m3) (h e : Fin 64) (j : ℕ) (t : Fin 1024) : EReal :=
  if hj : j < 8 then
    x8 (ix3 0 ⟨(h.val / 8) * 64 + e.val, by omega⟩ ⟨j * 1024 + t.val, by omega⟩) * x6 (ix2 ⟨(h.val / 8) * 64 + e.val, by omega⟩ 0)
  else 0

/-- Head `h`'s score of the new key. -/
def sN (x0 : Vec Ideal S1x64x64 .bf16) (x1 : Vec Ideal S1x8x64 .bf16) (x3 : Vec Ideal S8x1 .f32) (h : Fin 64) : EReal :=
  (∑ e : Fin 64, x0 (ix3 0 h e) * (qcode (x1 (ix3 0 ⟨h.val / 8, by omega⟩ e)) (x3 (ix2 ⟨h.val / 8, by omega⟩ 0)) * x3 (ix2 ⟨h.val / 8, by omega⟩ 0))) * scale

/-- Channel `e` of head `h`'s new value. -/
def vN (x2 : Vec Ideal S1x8x64 .bf16) (x4 : Vec Ideal S8x1 .f32) (h e : Fin 64) : EReal :=
  qcode (x2 (ix3 0 ⟨h.val / 8, by omega⟩ e)) (x4 (ix2 ⟨h.val / 8, by omega⟩ 0)) * x4 (ix2 ⟨h.val / 8, by omega⟩ 0)

/-- The new key's fp8 codes. -/
theorem kcode_at (x1 : Vec Ideal S1x8x64 .bf16) (x3 : Vec Ideal S8x1 .f32) (g : Fin 8) (e : Fin 64) :
    k0_pay18 (F := Ideal) (k0_pay14 x1) (k0_pay15 x3) (k0_pay16 x3) (k0_pay17 x3) (Scalar.ofBits .f32 0x40000000#32) (ix2 g e) = qcode (x1 (ix3 0 g e)) (x3 (ix2 g 0)) := by
  pointwise [k0_pay18, k0_pay14, k0_pay15, k0_pay16, k0_pay17]
  rfl

/-- The new value's fp8 codes. -/
theorem vcode_at (x2 : Vec Ideal S1x8x64 .bf16) (x4 : Vec Ideal S8x1 .f32) (g : Fin 8) (e : Fin 64) :
    k0_pay21 (F := Ideal) (k0_pay19 x2) (k0_pay20 x4) (ix2 g e) = qcode (x2 (ix3 0 g e)) (x4 (ix2 g 0)) := by
  pointwise [k0_pay21, k0_pay19, k0_pay20]
  rfl

/-- A score of a cached key, from the rows of the head's own group. -/
theorem score_at (x0 : Vec Ideal S1x64x64 .bf16) (A B : Vec Ideal S1x256x1024 .fp8e4m3) (c d : Vec Ideal S256x1 .f32) (h : Fin 64) (t : Fin 1024) (y : Fin 64 → EReal)
    (hA : ∀ (_ : h.val < 32) (e : Fin 64), A (ix3 0 ⟨(h.val / 8) * 64 + e.val, by omega⟩ t) * c (ix2 ⟨(h.val / 8) * 64 + e.val, by omega⟩ 0) = y e)
    (hB : ∀ (_ : ¬ h.val < 32) (e : Fin 64), B (ix3 0 ⟨((h.val - 32) / 8) * 64 + e.val, by omega⟩ t) * d (ix2 ⟨((h.val - 32) / 8) * 64 + e.val, by omega⟩ 0) = y e) :
    k0_pay55 (F := Ideal) (k0_pay7 (k0_pay3 x0) k0_pay4 (iota Kind.tc S32x256 32 [1] iota_S32x256_d1_w32) 64#32 k0_pay5 k0_pay6 1#32)
      (k0_pay13 (k0_pay8 (k0_pay2 x0)) k0_pay9 (iota Kind.tc S32x256 32 [1] iota_S32x256_d1_w32) 64#32 k0_pay10 k0_pay11 k0_pay12) A c B d (ix2 h t)
      = (∑ e : Fin 64, x0 (ix3 0 h e) * y e) * scale := by
  rw [sc_at]
  split_ifs with hh
  · refine congrArg (· * scale) ?_
    refine (Finset.sum_congr rfl fun k _ => congrArg (· * (A (ix3 0 k t) * c (ix2 k 0))) (qa x0 ⟨h.val, hh⟩ k)).trans ?_
    have := diag_sum (h.val / 8) (by omega) (fun e => x0 (ix3 0 h e)) (fun k => A (ix3 0 k t) * c (ix2 k 0))
    refine this.trans (Finset.sum_congr rfl fun e _ => ?_)
    exact congrArg (x0 (ix3 0 h e) * ·) (hA hh e)
  · refine congrArg (· * scale) ?_
    refine (Finset.sum_congr rfl fun k _ => congrArg (· * (B (ix3 0 k t) * d (ix2 k 0))) (qb x0 ⟨h.val - 32, by omega⟩ k)).trans ?_
    have hb : (⟨32 + (h.val - 32), by omega⟩ : Fin 64) = h := Fin.ext (by simp only; omega)
    simp only [hb]
    have := diag_sum ((h.val - 32) / 8) (by omega) (fun e => x0 (ix3 0 h e)) (fun k => B (ix3 0 k t) * d (ix2 k 0))
    refine this.trans (Finset.sum_congr rfl fun e _ => ?_)
    exact congrArg (x0 (ix3 0 h e) * ·) (hB hh e)

end Cert.KernelIdeal.Block

end
-- ==== Proof.KernelOut.lean ====
module

public import proofs.«01_k».proof.Proof.KernelCanon
public import proofs.«01_k».proof.Proof.KernelAttn
public import proofs.«01_k».proof.Proof.KernelScore
public import proofs.«01_k».proof.Proof.Gen.KernelIdeal.Value
public import Idealize.ShloMosaic.Lib.Pointwise
public import Idealize.ShloMosaic.Lib.Pipeline.ValueKit
public import Idealize.ShloMosaic.Lib.Pipeline.ReadBack

/-! The three results of the kernel's body on one batch entry, entry by entry. -/

@[expose] public section

set_option maxRecDepth 16384

noncomputable section

namespace Cert.KernelIdeal.Block

open Cert.KernelIdeal Cert.KernelIdeal.Gen Idealize.ShloMosaic Idealize.ShloMosaic.TcCoe Idealize.SL.Sem

set_option maxHeartbeats 4000000 in
/-- The attention output, as the body stores it: the two-pass softmax over the cached keys and the new one. -/
theorem out9  (c : Dev nD) (i : grid0.Coords) (arg1 : Memref sig .tc .vmem S1x64x64 .bf16) (harg1 : arg1.IsWhole) (arg2 : Memref sig .tc .vmem S1x8x64 .bf16) (harg2 : arg2.IsWhole) (arg3 : Memref sig .tc .vmem S1x8x64 .bf16) (harg3 : arg3.IsWhole) (arg4 : Memref sig .tc .vmem S8x1 .f32) (harg4 : arg4.IsWhole) (arg5 : Memref sig .tc .vmem S8x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512x8192 .fp8e4m3) (harg8 : arg8.IsWhole) (arg9 : Memref sig .tc .vmem S1x512x8192 .fp8e4m3) (harg9 : arg9.IsWhole) (arg10 : Memref sig .tc .vmem S1x64x64 .bf16) (harg10 : arg10.IsWhole) (arg11 : Memref sig .tc .vmem S1x8x64 .fp8e4m3) (harg11 : arg11.IsWhole) (arg12 : Memref sig .tc .vmem S1x8x64 .fp8e4m3) (harg12 : arg12.IsWhole) (arg13 : Memref sig .tc .vmem S64x8192 .f32) (harg13 : arg13.IsWhole)
    (x0 : Vec Ideal S1x64x64 .bf16) (x1 : Vec Ideal S1x8x64 .bf16) (x2 : Vec Ideal S1x8x64 .bf16) (x3 : Vec Ideal S8x1 .f32) (x4 : Vec Ideal S8x1 .f32) (x5 : Vec Ideal S512x1 .f32) (x6 : Vec Ideal S512x1 .f32) (x7 : Vec Ideal S1x512x8192 .fp8e4m3) (x8 : Vec Ideal S1x512x8192 .fp8e4m3) (h e : Fin 64) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix3 0 h e) = Softmax.twoPass (sK x0 x5 x7 h) (vK x6 x8 h e) (sN x0 x1 x3 h) (vN x2 x4 h e) := by
  frame_open
  simp (disch := decide) only [↓ View.readCov_skip, ↓ View.readCov_cons_toLoadRect, ↓ View.readCov_fill]
  frame_out
  simp only [c28, c32, c37, c43, c48, c53, c27, c31, c36, c39, c42, c47, c52, c60, c69, c78, c87, c91, c62, c75, c80, c84, c93, c63, c67, c71, c76, c85, c89, c94]
  refine (core_at _ _ _ _ _ h e (sK x0 x5 x7 h) (vK x6 x8 h e) _ (L8_at _ _ _ _ _ _ _ _ _ h _ ?_ ?_ ?_ ?_ ?_ ?_ ?_ ?_) ?P ?A ?B).trans ?E
  case P =>
    rw [p57_at]
    refine congrArg (fun z => Ideal.exp (_ - z)) (M8_at _ _ _ _ _ _ _ _ _ h _ ?_ ?_ ?_ ?_ ?_ ?_ ?_ ?_)
    all_goals
      intro t
      rw [sK, dif_pos (by decide)]
      refine score_at _ _ _ _ _ h t _ (fun hh e => ?_) (fun hh e => ?_)
      all_goals
        pointwise []
        all_goals (refine congrArg₂ (fun a b => x7 a * x5 b) ?_ ?_ <;> blk_ext)
  case E =>
    rw [sn_at, vn_at, vcode_at]
    simp only [kcode_at]
    rfl
  case A =>
    intro hh
    refine (A8_at _ _ _ _ _ _ _ _ _ _ _ _ _ _ _ _ _ _ _ ⟨h.val, hh⟩ (sK x0 x5 x7 h) (vK x6 x8 h e) ?_ ?_ ?_ ?_ ?_ ?_ ?_ ?_ ?a0 ?a1 ?a2 ?a3 ?a4 ?a5 ?a6 ?a7).trans
      (congrArg (Softmax.ta _ _) (M8_at _ _ _ _ _ _ _ _ _ h _ ?_ ?_ ?_ ?_ ?_ ?_ ?_ ?_))
    case a0 | a1 | a2 | a3 | a4 | a5 | a6 | a7 =>
      intro t
      rw [vK, dif_pos (by decide)]
      pointwise []
      all_goals (refine congrArg₂ (fun a b => x8 a * x6 b) ?_ ?_ <;> blk_ext)
    all_goals
      intro t
      rw [sK, dif_pos (by decide)]
      refine score_at _ _ _ _ _ h t _ (fun hh e => ?_) (fun hh e => ?_)
      all_goals
        pointwise []
        all_goals (refine congrArg₂ (fun a b => x7 a * x5 b) ?_ ?_ <;> blk_ext)
  case B =>
    intro hh
    have hb : (⟨32 + (⟨h.val - 32, by omega⟩ : Fin 32).val, by simp only; omega⟩ : Fin 64) = h := Fin.ext (by simp only; omega)
    refine (B8_at _ _ _ _ _ _ _ _ _ _ _ _ _ _ _ _ _ _ _ ⟨h.val - 32, by omega⟩ (sK x0 x5 x7 h) (vK x6 x8 h e) ?_ ?_ ?_ ?_ ?_ ?_ ?_ ?_ ?a0 ?a1 ?a2 ?a3 ?a4 ?a5 ?a6 ?a7).trans ?fin
    case fin =>
      rw [hb]
      refine congrArg (Softmax.ta _ _) (M8_at _ _ _ _ _ _ _ _ _ h _ ?_ ?_ ?_ ?_ ?_ ?_ ?_ ?_)
      all_goals
        intro t
        rw [sK, dif_pos (by decide)]
        refine score_at _ _ _ _ _ h t _ (fun hh e => ?_) (fun hh e => ?_)
        all_goals
          pointwise []
          all_goals (refine congrArg₂ (fun a b => x7 a * x5 b) ?_ ?_ <;> blk_ext)
    case a0 | a1 | a2 | a3 | a4 | a5 | a6 | a7 =>
      intro t
      rw [vK, dif_pos (by decide)]
      pointwise []
      all_goals (refine congrArg₂ (fun a b => x8 a * x6 b) ?_ ?_ <;> blk_ext)
    all_goals rw [hb]
    all_goals
      intro t
      rw [sK, dif_pos (by decide)]
      refine score_at _ _ _ _ _ h t _ (fun hh e => ?_) (fun hh e => ?_)
      all_goals
        pointwise []
        all_goals (refine congrArg₂ (fun a b => x7 a * x5 b) ?_ ?_ <;> blk_ext)
  all_goals
      intro t
      rw [sK, dif_pos (by decide)]
      refine score_at _ _ _ _ _ h t _ (fun hh e => ?_) (fun hh e => ?_)
      all_goals
        pointwise []
        all_goals (refine congrArg₂ (fun a b => x7 a * x5 b) ?_ ?_ <;> blk_ext)

end Cert.KernelIdeal.Block

end
-- ==== Proof.KernelBlock.lean ====
module

public import proofs.«01_k».proof.Proof.KernelCanon
public import proofs.«01_k».proof.Proof.KernelAttn
public import proofs.«01_k».proof.Proof.KernelScore
public import proofs.«01_k».proof.Proof.Gen.KernelIdeal.Value
public import Idealize.ShloMosaic.Lib.Pointwise
public import Idealize.ShloMosaic.Lib.Pipeline.ValueKit
public import Idealize.ShloMosaic.Lib.Pipeline.ReadBack

/-! The three results of the kernel's body on one batch entry, entry by entry. -/

@[expose] public section

set_option maxRecDepth 16384

noncomputable section

namespace Cert.KernelIdeal.Block

open Cert.KernelIdeal Cert.KernelIdeal.Gen Idealize.ShloMosaic Idealize.ShloMosaic.TcCoe Idealize.SL.Sem

set_option maxHeartbeats 2000000 in
/-- The new key's codes, as the body stores them. -/
theorem out10  (c : Dev nD) (i : grid0.Coords) (arg1 : Memref sig .tc .vmem S1x64x64 .bf16) (harg1 : arg1.IsWhole) (arg2 : Memref sig .tc .vmem S1x8x64 .bf16) (harg2 : arg2.IsWhole) (arg3 : Memref sig .tc .vmem S1x8x64 .bf16) (harg3 : arg3.IsWhole) (arg4 : Memref sig .tc .vmem S8x1 .f32) (harg4 : arg4.IsWhole) (arg5 : Memref sig .tc .vmem S8x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512x8192 .fp8e4m3) (harg8 : arg8.IsWhole) (arg9 : Memref sig .tc .vmem S1x512x8192 .fp8e4m3) (harg9 : arg9.IsWhole) (arg10 : Memref sig .tc .vmem S1x64x64 .bf16) (harg10 : arg10.IsWhole) (arg11 : Memref sig .tc .vmem S1x8x64 .fp8e4m3) (harg11 : arg11.IsWhole) (arg12 : Memref sig .tc .vmem S1x8x64 .fp8e4m3) (harg12 : arg12.IsWhole) (arg13 : Memref sig .tc .vmem S64x8192 .f32) (harg13 : arg13.IsWhole)
    (x0 : Vec Ideal S1x64x64 .bf16) (x1 : Vec Ideal S1x8x64 .bf16) (x2 : Vec Ideal S1x8x64 .bf16) (x3 : Vec Ideal S8x1 .f32) (x4 : Vec Ideal S8x1 .f32) (x5 : Vec Ideal S512x1 .f32) (x6 : Vec Ideal S512x1 .f32) (x7 : Vec Ideal S1x512x8192 .fp8e4m3) (x8 : Vec Ideal S1x512x8192 .fp8e4m3) (g : Fin 8) (e : Fin 64) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix3 0 g e) = qcode (x1 (ix3 0 g e)) (x3 (ix2 g 0)) := by
  frame_open
  simp (disch := decide) only [↓ View.readCov_skip, ↓ View.readCov_cons_toLoadRect, ↓ View.readCov_fill]
  frame_out
  rw [← kcode_at]
  pointwise [k0_pay22]

set_option maxHeartbeats 2000000 in
/-- The new value's codes, as the body stores them. -/
theorem out11  (c : Dev nD) (i : grid0.Coords) (arg1 : Memref sig .tc .vmem S1x64x64 .bf16) (harg1 : arg1.IsWhole) (arg2 : Memref sig .tc .vmem S1x8x64 .bf16) (harg2 : arg2.IsWhole) (arg3 : Memref sig .tc .vmem S1x8x64 .bf16) (harg3 : arg3.IsWhole) (arg4 : Memref sig .tc .vmem S8x1 .f32) (harg4 : arg4.IsWhole) (arg5 : Memref sig .tc .vmem S8x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x512x8192 .fp8e4m3) (harg8 : arg8.IsWhole) (arg9 : Memref sig .tc .vmem S1x512x8192 .fp8e4m3) (harg9 : arg9.IsWhole) (arg10 : Memref sig .tc .vmem S1x64x64 .bf16) (harg10 : arg10.IsWhole) (arg11 : Memref sig .tc .vmem S1x8x64 .fp8e4m3) (harg11 : arg11.IsWhole) (arg12 : Memref sig .tc .vmem S1x8x64 .fp8e4m3) (harg12 : arg12.IsWhole) (arg13 : Memref sig .tc .vmem S64x8192 .f32) (harg13 : arg13.IsWhole)
    (x0 : Vec Ideal S1x64x64 .bf16) (x1 : Vec Ideal S1x8x64 .bf16) (x2 : Vec Ideal S1x8x64 .bf16) (x3 : Vec Ideal S8x1 .f32) (x4 : Vec Ideal S8x1 .f32) (x5 : Vec Ideal S512x1 .f32) (x6 : Vec Ideal S512x1 .f32) (x7 : Vec Ideal S1x512x8192 .fp8e4m3) (x8 : Vec Ideal S1x512x8192 .fp8e4m3) (g : Fin 8) (e : Fin 64) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix3 0 g e) = qcode (x2 (ix3 0 g e)) (x4 (ix2 g 0)) := by
  frame_open
  simp (disch := decide) only [↓ View.readCov_skip, ↓ View.readCov_cons_toLoadRect, ↓ View.readCov_fill]
  frame_out
  rw [← vcode_at]
  unfold k0_pay23
  pointwise []

end Cert.KernelIdeal.Block

end
-- ==== Proof.Spec.lean ====
module

public import proofs.«01_k».proof.Proof.KernelScore
public import proofs.«01_k».proof.Proof.Softmax

/-! What both programs compute, entry by entry, as functions of the argument arrays:
the codes of the new keys and values, and the attention output over the cache and the new token. -/

@[expose] public section

noncomputable section

namespace Cert.Spec

open Cert.KernelIdeal Cert.KernelIdeal.Block Idealize.ShloMosaic Idealize.ShloMosaic.TcCoe

/-- The score of head `h` of batch `b` against position `j * 1024 + t` of the key cache. -/
def sC (a0 : Vec Ideal S16x1x4096 .bf16) (a3 : Vec Ideal S16x8192x8x64 .fp8e4m3) (a4 : Vec Ideal S8 .f32) (b : Fin 16) (h : Fin 64)
    (j : ℕ) (t : Fin 1024) : EReal :=
  if hj : j < 8 then
    (∑ e : Fin 64, a0 (ix3 b 0 ⟨h.val * 64 + e.val, by omega⟩)
      * (a3 (ix4 b ⟨j * 1024 + t.val, by omega⟩ ⟨h.val / 8, by omega⟩ e) * a4 (ix1 ⟨h.val / 8, by omega⟩))) * scale
  else 0

/-- Coordinate `e` of the value at position `j * 1024 + t` of the cache, for head `h` of batch `b`. -/
def vC (a5 : Vec Ideal S16x8192x8x64 .fp8e4m3) (a6 : Vec Ideal S8 .f32) (b : Fin 16) (h e : Fin 64) (j : ℕ) (t : Fin 1024) : EReal :=
  if hj : j < 8 then
    a5 (ix4 b ⟨j * 1024 + t.val, by omega⟩ ⟨h.val / 8, by omega⟩ e) * a6 (ix1 ⟨h.val / 8, by omega⟩)
  else 0

/-- The codes of a new key or value. -/
def codes (a1 : Vec Ideal S16x1x8x64 .bf16) (a4 : Vec Ideal S8 .f32) : Vec Ideal S16x8x64 .fp8e4m3 :=
  fun i => qcode (a1 (ix4 (i 0) 0 (i 1) (i 2))) (a4 (ix1 (i 1)))

/-- The score of head `h` of batch `b` against the new key. -/
def sT (a0 : Vec Ideal S16x1x4096 .bf16) (a1 : Vec Ideal S16x1x8x64 .bf16) (a4 : Vec Ideal S8 .f32) (b : Fin 16) (h : Fin 64) : EReal :=
  (∑ e : Fin 64, a0 (ix3 b 0 ⟨h.val * 64 + e.val, by omega⟩)
    * (qcode (a1 (ix4 b 0 ⟨h.val / 8, by omega⟩ e)) (a4 (ix1 ⟨h.val / 8, by omega⟩)) * a4 (ix1 ⟨h.val / 8, by omega⟩))) * scale

/-- Coordinate `e` of the new value, for head `h` of batch `b`. -/
def vT (a2 : Vec Ideal S16x1x8x64 .bf16) (a6 : Vec Ideal S8 .f32) (b : Fin 16) (h e : Fin 64) : EReal :=
  qcode (a2 (ix4 b 0 ⟨h.val / 8, by omega⟩ e)) (a6 (ix1 ⟨h.val / 8, by omega⟩)) * a6 (ix1 ⟨h.val / 8, by omega⟩)

/-- The attention output. -/
def attn (a0 : Vec Ideal S16x1x4096 .bf16) (a1 a2 : Vec Ideal S16x1x8x64 .bf16) (a3 : Vec Ideal S16x8192x8x64 .fp8e4m3)
    (a4 : Vec Ideal S8 .f32) (a5 : Vec Ideal S16x8192x8x64 .fp8e4m3) (a6 : Vec Ideal S8 .f32) : Vec Ideal S16x64x64 .bf16 :=
  fun i => Softmax.twoPass (sC a0 a3 a4 (i 0) (i 1)) (vC a5 a6 (i 0) (i 1) (i 2)) (sT a0 a1 a4 (i 0) (i 1)) (vT a2 a6 (i 0) (i 1) (i 2))

end Cert.Spec

end
-- ==== Proof.KernelValue.lean ====
module

public import proofs.«01_k».proof.Proof.KernelOut
public import proofs.«01_k».proof.Proof.KernelBlock
public import proofs.«01_k».proof.Proof.Spec
public import proofs.«01_k».proof.Proof.Gen.KernelIdeal.Value
public import Idealize.ShloMosaic.Lib.Pointwise
public import Idealize.ShloMosaic.Lib.Claim
public import Idealize.ShloMosaic.Lib.Pipeline.ValueKit

/-! The kernel's result arrays after the run, as functions of its argument arrays. -/

@[expose] public section

set_option maxRecDepth 16384

noncomputable section

namespace Cert.KernelIdeal.Out

open Cert.KernelIdeal Cert.KernelIdeal.Gen Cert.KernelIdeal.Block Idealize.ShloMosaic Idealize.ShloMosaic.TcCoe Idealize.SL.Sem
open Idealize.ShloMosaic.Pipeline (Dat)

variable (m : (ℓ : Loc nD τ sig) → Buf (Elt Ideal) ℓ)

/-- The block each window holds at each grid point. -/
theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![0, 0]
    ∧ win0_7.index t = ![t.val, 0, 0] ∧ win0_8.index t = ![t.val, 0, 0] ∧ win0_9.index t = ![t.val, 0, 0]
    ∧ win0_10.index t = ![t.val, 0, 0] ∧ win0_11.index t = ![t.val, 0, 0] :=
  (by decide +kernel : ∀ t : Fin grid0.N, _)

/-- The query block of batch `b`. -/
theorem in0 (c : Dev nD) (t : Fin cfg0.N) (b : Fin 16) (hb : t.val = b.val) (h e : Fin 64) : iblk m c 0 t (ix3 0 h e)
    = m ((c : Thread nD τ).loc main_arg0) (ix3 b 0 ⟨h.val * 64 + e.val, by omega⟩) := by
  blk_simp [iblk, idx t]; entry_read
  pointwise []
  all_goals blk_ext [idx t]

/-- The new keys of batch `b`. -/
theorem in1 (c : Dev nD) (t : Fin cfg0.N) (b : Fin 16) (hb : t.val = b.val) (g : Fin 8) (e : Fin 64) : iblk m c 1 t (ix3 0 g e)
    = m ((c : Thread nD τ).loc main_arg1) (ix4 b 0 g e) := by
  blk_simp [iblk, idx t]; entry_read
  pointwise []
  all_goals blk_ext [idx t]

/-- The new values of batch `b`. -/
theorem in2 (c : Dev nD) (t : Fin cfg0.N) (b : Fin 16) (hb : t.val = b.val) (g : Fin 8) (e : Fin 64) : iblk m c 2 t (ix3 0 g e)
    = m ((c : Thread nD τ).loc main_arg2) (ix4 b 0 g e) := by
  blk_simp [iblk, idx t]; entry_read
  pointwise []
  all_goals blk_ext [idx t]

/-- The key scales as a column. -/
theorem in3 (c : Dev nD) (t : Fin cfg0.N) (b : Fin 16) (hb : t.val = b.val) (g : Fin 8) : iblk m c 3 t (ix2 g 0)
    = m ((c : Thread nD τ).loc main_arg4) (ix1 g) := by
  blk_simp [iblk, idx t]; entry_read
  pointwise []
  all_goals blk_ext [idx t]

/-- The value scales as a column. -/
theorem in4 (c : Dev nD) (t : Fin cfg0.N) (b : Fin 16) (hb : t.val = b.val) (g : Fin 8) : iblk m c 4 t (ix2 g 0)
    = m ((c : Thread nD τ).loc main_arg6) (ix1 g) := by
  blk_simp [iblk, idx t]; entry_read
  pointwise []
  all_goals blk_ext [idx t]

/-- The key scales, one for each row of the cache block. -/
theorem in5 (c : Dev nD) (t : Fin cfg0.N) (b : Fin 16) (hb : t.val = b.val) (r : Fin 512) : iblk m c 5 t (ix2 r 0)
    = m ((c : Thread nD τ).loc main_arg4) (ix1 ⟨r.val / 64, by omega⟩) := by
  blk_simp [iblk, idx t]; entry_read
  pointwise []
  all_goals blk_ext [idx t]

/-- The value scales, one for each row of the cache block. -/
theorem in6 (c : Dev nD) (t : Fin cfg0.N) (b : Fin 16) (hb : t.val = b.val) (r : Fin 512) : iblk m c 6 t (ix2 r 0)
    = m ((c : Thread nD τ).loc main_arg6) (ix1 ⟨r.val / 64, by omega⟩) := by
  blk_simp [iblk, idx t]; entry_read
  pointwise []
  all_goals blk_ext [idx t]

/-- The key cache of batch `b`. -/
theorem in7 (c : Dev nD) (t : Fin cfg0.N) (b : Fin 16) (hb : t.val = b.val) (r : Fin 512) (u : Fin 8192) : iblk m c 7 t (ix3 0 r u)
    = m ((c : Thread nD τ).loc main_arg3) (ix4 b u ⟨r.val / 64, by omega⟩ ⟨r.val % 64, by omega⟩) := by
  blk_simp [iblk, idx t]; entry_read
  pointwise []
  all_goals blk_ext [idx t]

/-- The value cache of batch `b`. -/
theorem in8 (c : Dev nD) (t : Fin cfg0.N) (b : Fin 16) (hb : t.val = b.val) (r : Fin 512) (u : Fin 8192) : iblk m c 8 t (ix3 0 r u)
    = m ((c : Thread nD τ).loc main_arg5) (ix4 b u ⟨r.val / 64, by omega⟩ ⟨r.val % 64, by omega⟩) := by
  blk_simp [iblk, idx t]; entry_read
  pointwise []
  all_goals blk_ext [idx t]

/-- The codes of the new keys after the run. -/
theorem final10 (c : Dev nD) : (dats m 0 c).arrAt 10 cfg0.N = Spec.codes (m ((c : Thread nD τ).loc main_arg1)) (m ((c : Thread nD τ).loc main_arg4)) := by
  refine (dats m 0 c).arrAt_eq_of_covers 10 _ (by decide +kernel) fun t _ y => ?_
  blk_simp
  rw [after0_10]
  unfold outsAt0
  idx_vars y
  obtain ⟨b, hb⟩ : ∃ b : Fin 16, t.val = b.val := ⟨⟨t.val, by have := t.isLt; exact this⟩, rfl⟩
  have hy : (((cfg0.win 10).blk t).view.emb (ix3 y0 y1 y2)) = ix3 b y1 y2 := by blk_ext [idx t]
  have h0 : y0 = 0 := by omega
  subst h0
  refine (out10 _ _ _ _ _ _ _ _ _ _ _ _ _ _ _ _ _ _ _ _ _ _ _ _ _ _ _ _ _ _ _ _ _ _ _ _ _ _ _).trans ?_
  refine (congrArg₂ qcode (in1 m c t b hb y1 y2) (in3 m c t b hb y1)).trans ?_
  refine Eq.trans ?_ (congrArg (Spec.codes (m ((c : Thread nD τ).loc main_arg1)) (m ((c : Thread nD τ).loc main_arg4))) hy).symm
  rfl

/-- The codes of the new values after the run. -/
theorem final11 (c : Dev nD) : (dats m 0 c).arrAt 11 cfg0.N = Spec.codes (m ((c : Thread nD τ).loc main_arg2)) (m ((c : Thread nD τ).loc main_arg6)) := by
  refine (dats m 0 c).arrAt_eq_of_covers 11 _ (by decide +kernel) fun t _ y => ?_
  blk_simp
  rw [after0_11]
  unfold outsAt0
  idx_vars y
  obtain ⟨b, hb⟩ : ∃ b : Fin 16, t.val = b.val := ⟨⟨t.val, by have := t.isLt; exact this⟩, rfl⟩
  have hy : (((cfg0.win 11).blk t).view.emb (ix3 y0 y1 y2)) = ix3 b y1 y2 := by blk_ext [idx t]
  have h0 : y0 = 0 := by omega
  subst h0
  refine (out11 _ _ _ _ _ _ _ _ _ _ _ _ _ _ _ _ _ _ _ _ _ _ _ _ _ _ _ _ _ _ _ _ _ _ _ _ _ _ _).trans ?_
  refine (congrArg₂ qcode (in2 m c t b hb y1 y2) (in4 m c t b hb y1)).trans ?_
  refine Eq.trans ?_ (congrArg (Spec.codes (m ((c : Thread nD τ).loc main_arg2)) (m ((c : Thread nD τ).loc main_arg6))) hy).symm
  rfl

/-- The attention output after the run. -/
theorem final9 (c : Dev nD) : (dats m 0 c).arrAt 9 cfg0.N = Spec.attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  unfold outsAt0
  idx_vars y
  obtain ⟨b, hb⟩ : ∃ b : Fin 16, t.val = b.val := ⟨⟨t.val, by have := t.isLt; exact this⟩, rfl⟩
  have hy : (((cfg0.win 9).blk t).view.emb (ix3 y0 y1 y2)) = ix3 b y1 y2 := by blk_ext [idx t]
  have h0 : y0 = 0 := by omega
  subst h0
  refine (out9 _ _ _ _ _ _ _ _ _ _ _ _ _ _ _ _ _ _ _ _ _ _ _ _ _ _ _ _ _ _ _ _ _ _ _ _ _ _ _).trans ?_
  refine Eq.trans ?_ (congrArg (Spec.attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) hy).symm
  have e1 : sK (iblk m c 0 t) (iblk m c 5 t) (iblk m c 7 t) y1 = Spec.sC (m ((c : Thread nD τ).loc main_arg0)) (m ((c : Thread nD τ).loc main_arg3)) (m ((c : Thread nD τ).loc main_arg4)) b y1 := by
    funext j u
    unfold sK Spec.sC
    refine dite_congr rfl (fun hj => ?_) fun _ => rfl
    refine congrArg (· * scale) (Finset.sum_congr rfl fun e _ => ?_)
    refine congrArg₂ (· * ·) (in0 m c t b hb y1 e) (congrArg₂ (· * ·) ((in7 m c t b hb _ _).trans (congrArg (m ((c : Thread nD τ).loc main_arg3)) ?_)) ((in5 m c t b hb _).trans (congrArg (m ((c : Thread nD τ).loc main_arg4)) ?_)))
    all_goals blk_ext
  have e2 : vK (iblk m c 6 t) (iblk m c 8 t) y1 y2 = Spec.vC (m ((c : Thread nD τ).loc main_arg5)) (m ((c : Thread nD τ).loc main_arg6)) b y1 y2 := by
    funext j u
    unfold vK Spec.vC
    refine dite_congr rfl (fun hj => ?_) fun _ => rfl
    refine congrArg₂ (· * ·) ((in8 m c t b hb _ _).trans (congrArg (m ((c : Thread nD τ).loc main_arg5)) ?_)) ((in6 m c t b hb _).trans (congrArg (m ((c : Thread nD τ).loc main_arg6)) ?_))
    all_goals blk_ext
  have e3 : sN (iblk m c 0 t) (iblk m c 1 t) (iblk m c 3 t) y1 = Spec.sT (m ((c : Thread nD τ).loc main_arg0)) (m ((c : Thread nD τ).loc main_arg1)) (m ((c : Thread nD τ).loc main_arg4)) b y1 := by
    unfold sN Spec.sT
    refine congrArg (· * scale) (Finset.sum_congr rfl fun e _ => ?_)
    exact congrArg₂ (· * ·) (in0 m c t b hb y1 e) (congrArg₂ (· * ·) (congrArg₂ qcode (in1 m c t b hb _ e) (in3 m c t b hb _)) (in3 m c t b hb _))
  have e4 : vN (iblk m c 2 t) (iblk m c 4 t) y1 y2 = Spec.vT (m ((c : Thread nD τ).loc main_arg2)) (m ((c : Thread nD τ).loc main_arg6)) b y1 y2 := by
    unfold vN Spec.vT
    exact congrArg₂ (· * ·) (congrArg₂ qcode (in2 m c t b hb _ y2) (in4 m c t b hb _)) (in4 m c t b hb _)
  exact congr (congr (congrArg₂ Softmax.twoPass e1 e2) e3) e4

end Cert.KernelIdeal.Out

end
-- ==== Proof.RefTrip.lean ====
module

public import proofs.«01_k».proof.Proof.Spec
public import proofs.«01_k».proof.Proof.Gen.ReferenceIdeal.Run
public import Idealize.ShloMosaic.Lib.Pointwise
public import Idealize.ShloMosaic.Lib.DynamicIndex
public import Idealize.ShloMosaic.Lib.Claim
public import Idealize.ShloMosaic.Lib.Pipeline.ValueKit

/-! One trip of the reference's scan over the cache, entry by entry. -/

@[expose] public section

set_option maxRecDepth 16384

noncomputable section

namespace Cert.ReferenceIdeal.Trip

open Cert.ReferenceIdeal Cert.ReferenceIdeal.Gen Cert.ReferenceIdeal.Value Idealize.ShloMosaic Idealize.ShloMosaic.TcCoe Idealize.SL.Sem

variable (V : Valuation τ sig (Elt Ideal))

/-- The starts of the trip's block of the cache. -/
theorem starts : ∀ k : Fin 8, ∀ a : Fin 4, ((((![constantI S_ 32 0#32, select (cmpi .slt (muli (fun _ => BitVec.ofNat 32 k.val) (constantI S_ 32 1024#32)) (constantI S_ 32 0#32)) (addi (muli (fun _ => BitVec.ofNat 32 k.val) (constantI S_ 32 1024#32)) (constantI S_ 32 8192#32)) (muli (fun _ => BitVec.ofNat 32 k.val) (constantI S_ 32 1024#32)), constantI S_ 32 0#32, constantI S_ 32 0#32] : Fin 4 → S_.Idx → BitVec 32)) a (Shape.Idx.first h_S_)).toInt) = (((![0, k.val * 1024, 0, 0] : Fin 4 → ℕ) a : ℕ) : Int) := by
  decide +kernel

/-- Every block of 1024 positions lies inside the cache. -/
theorem fits : ∀ k : Fin 8, S16x8192x8x64.Slices (![0, k.val * 1024, 0, 0] : Fin 4 → ℕ) S16x1024x8x64 := by decide +kernel

/-- The position the scan reads its counter from. -/
theorem start1 : ∀ k : Fin 8, ∀ a : Fin 1, ((((![(fun _ => BitVec.ofNat 32 k.val)] : Fin 1 → S_.Idx → BitVec 32)) a (Shape.Idx.first h_S_)).toInt) = (((![k.val] : Fin 1 → ℕ) a : ℕ) : Int) := by
  decide +kernel

/-- The scan reads one counter out of eight. -/
theorem fits1 : ∀ k : Fin 8, S8.Slices (![k.val] : Fin 1 → ℕ) S1 := by decide +kernel

/-- The trip's block number, read off the scanned numbers `0 … 7`. -/
theorem blockNo (k : Fin 8) (h0 : V (Proc.devRef .tc main_v66_0) = iotaInDim S8 32 0)
    (h6 : V (Proc.devRef .tc main_v66_6) = fun _ => BitVec.ofNat 32 k.val) :
    res_main_while0b_v105 V = fun _ => BitVec.ofNat 32 k.val := by
  unfold res_main_while0b_v105
  rw [h0, h6]
  rw [Host.dynamicSlice_eq_extractStridedSlice S1 _ _ (![k.val] : Fin 1 → ℕ) _ (fits1 k) (start1 k)]
  funext i
  pointwise []
  all_goals blk_ext

/-- The trip's block of an array of the cache's shape. -/
theorem slice106 (k : Fin 8) (h : res_main_while0b_v105 V = fun _ => BitVec.ofNat 32 k.val) (A : Vec Ideal S16x8192x8x64 .bf16)
   (b : Fin 16) (t : Fin 1024) (g : Fin 8) (e : Fin 64) :
   Host.dynamicSlice S16x1024x8x64 A (fun k => (((![constantI S_ 32 0#32, select (cmpi .slt (res_main_while0b_v106 V) (constantI S_ 32 0#32)) (addi (res_main_while0b_v106 V) (constantI S_ 32 8192#32)) (res_main_while0b_v106 V), constantI S_ 32 0#32, constantI S_ 32 0#32] : Fin 4 → (⟨S_, .i32⟩ : BufTy).Contents (Elt Ideal))) k (Shape.Idx.first h_S_)).toInt) sliceFits_S16x8192x8x64_S16x1024x8x64 (ix4 b t g e)
   = A (ix4 b ⟨k.val * 1024 + t.val, by omega⟩ g e) := by
  unfold res_main_while0b_v106
  rw [h]
  refine (congrFun (Host.dynamicSlice_eq_extractStridedSlice S16x1024x8x64 A _ (![0, k.val * 1024, 0, 0] : Fin 4 → ℕ) _ (fits k) (starts k)) _).trans ?_
  pointwise []
  all_goals blk_ext

/-- The same block, for the values. -/
theorem slice111 (k : Fin 8) (h : res_main_while0b_v105 V = fun _ => BitVec.ofNat 32 k.val) (A : Vec Ideal S16x8192x8x64 .bf16)
   (b : Fin 16) (t : Fin 1024) (g : Fin 8) (e : Fin 64) :
   Host.dynamicSlice S16x1024x8x64 A (fun k => (((![constantI S_ 32 0#32, select (cmpi .slt (res_main_while0b_v111 V) (constantI S_ 32 0#32)) (addi (res_main_while0b_v111 V) (constantI S_ 32 8192#32)) (res_main_while0b_v111 V), constantI S_ 32 0#32, constantI S_ 32 0#32] : Fin 4 → (⟨S_, .i32⟩ : BufTy).Contents (Elt Ideal))) k (Shape.Idx.first h_S_)).toInt) sliceFits_S16x8192x8x64_S16x1024x8x64 (ix4 b t g e)
   = A (ix4 b ⟨k.val * 1024 + t.val, by omega⟩ g e) := slice106 V k h A b t g e

/-- The trip's scores. -/
theorem v125 (k : Fin 8) (h : res_main_while0b_v105 V = fun _ => BitVec.ofNat 32 k.val)
   (K : Vec Ideal S16x8192x8x64 .bf16) (hK : V (Proc.devRef .tc main_v66_1) = K)
   (sc : Vec Ideal S8x1 .bf16) (hsc : V (Proc.devRef .tc main_v66_3) = sc)
   (q : Vec Ideal S16x1x8x8x64 .bf16) (hq : V (Proc.devRef .tc main_v66_5) = q)
   (b : Fin 16) (g s : Fin 8) (t : Fin 1024) :
   (res_main_while0b_v125 V : Vec Ideal S16x8x8x1x1024 .f32) (ix5 b g s 0 t)
    = (∑ e : Fin 64, q (ix5 b 0 g s e) * (K (ix4 b ⟨k.val * 1024 + t.val, by omega⟩ g e) * sc (ix2 g 0))) * Ideal.ofBits .f32 1040187392#32 := by
  unfold res_main_while0b_v125
  rw [hK, hsc, hq]
  have hs := slice106 V k h K b t g
  revert hs
  generalize Host.dynamicSlice S16x1024x8x64 K _ _ = B
  intro hs
  pointwise []
  refine congrArg (· * _) (Finset.sum_congr rfl fun e _ => ?_)
  rw [mul_comm]
  exact congrArg (fun z => q (ix5 b 0 g s e) * (z * sc (ix2 g 0))) (hs e)

/-- The running maximum after the trip. -/
theorem v127 (M : Vec Ideal S16x8x8x1 .f32) (hM : V (Proc.devRef .tc main_v66_7) = M)
   (Z : Vec Ideal S16x8x8x1x1024 .f32) (hZ : res_main_while0b_v125 V = Z)
   (M' : Vec Ideal S16x8x8x1 .f32) (hM' : res_main_while0b_v127 V = M')
   (b : Fin 16) (g s : Fin 8) (z : Fin 1024 → EReal) (hz : ∀ t, Z (ix5 b g s 0 t) = z t) :
   M' (ix4 b g s 0) = max (M (ix4 b g s 0)) (Softmax.top z) := by
  rw [← hM']
  unfold res_main_while0b_v127
  rw [hM, hZ]
  pointwise []
  refine congrArg (max _) (((reducesTo_S16x8x8x1x1024_S16x8x8x1_d4).fold_fiber_r5_a4 (ix4 b g s 0) max _ Z).trans ?_)
  exact congrArg (Finset.fold max ⊥ · Finset.univ) (funext hz)

/-- The factor by which the trip rescales what it carries. -/
theorem v129 (M : Vec Ideal S16x8x8x1 .f32) (hM : V (Proc.devRef .tc main_v66_7) = M)
   (M' : Vec Ideal S16x8x8x1 .f32) (hM' : res_main_while0b_v127 V = M')
   (a : Vec Ideal S16x8x8x1 .f32) (ha : res_main_while0b_v129 V = a)
   (b : Fin 16) (g s : Fin 8) :
   a (ix4 b g s 0) = Ideal.exp (M (ix4 b g s 0) - M' (ix4 b g s 0)) := by
  rw [← ha]
  unfold res_main_while0b_v129
  rw [hM, hM']
  pointwise []

/-- The trip's weights. -/
theorem v133 (Z : Vec Ideal S16x8x8x1x1024 .f32) (hZ : res_main_while0b_v125 V = Z)
   (M' : Vec Ideal S16x8x8x1 .f32) (hM' : res_main_while0b_v127 V = M')
   (P : Vec Ideal S16x8x8x1x1024 .f32) (hP : res_main_while0b_v133 V = P)
   (b : Fin 16) (g s : Fin 8) (t : Fin 1024) :
   P (ix5 b g s 0 t) = Ideal.exp (Z (ix5 b g s 0 t) - M' (ix4 b g s 0)) := by
  rw [← hP]
  unfold res_main_while0b_v133
  rw [hZ, hM']
  pointwise []

/-- The running sum of weights after the trip. -/
theorem s8 (L : Vec Ideal S16x8x8x1 .f32) (hL : V (Proc.devRef .tc main_v66_8) = L)
   (a : Vec Ideal S16x8x8x1 .f32) (ha : res_main_while0b_v129 V = a)
   (P : Vec Ideal S16x8x8x1x1024 .f32) (hP : res_main_while0b_v133 V = P)
   (L' : Vec Ideal S16x8x8x1 .f32) (hL' : step_main_v66_8 V = L')
   (b : Fin 16) (g s : Fin 8) :
   L' (ix4 b g s 0) = a (ix4 b g s 0) * L (ix4 b g s 0) + ∑ t : Fin 1024, P (ix5 b g s 0 t) := by
  rw [← hL']
  unfold step_main_v66_8
  rw [hL, ha, hP, id_eq]
  pointwise []

/-- The running weighted sum of values after the trip. -/
theorem s9 (k : Fin 8) (h : res_main_while0b_v105 V = fun _ => BitVec.ofNat 32 k.val)
   (A : Vec Ideal S16x8x8x1x64 .f32) (hA : V (Proc.devRef .tc main_v66_9) = A)
   (a : Vec Ideal S16x8x8x1 .f32) (ha : res_main_while0b_v129 V = a)
   (P : Vec Ideal S16x8x8x1x1024 .f32) (hP : res_main_while0b_v133 V = P)
   (K : Vec Ideal S16x8192x8x64 .bf16) (hK : V (Proc.devRef .tc main_v66_2) = K)
   (sc : Vec Ideal S8x1 .bf16) (hsc : V (Proc.devRef .tc main_v66_4) = sc)
   (A' : Vec Ideal S16x8x8x1x64 .f32) (hA' : step_main_v66_9 V = A')
   (b : Fin 16) (g s : Fin 8) (e : Fin 64) :
   A' (ix5 b g s 0 e) = a (ix4 b g s 0) * A (ix5 b g s 0 e)
     + ∑ t : Fin 1024, P (ix5 b g s 0 t) * (K (ix4 b ⟨k.val * 1024 + t.val, by omega⟩ g e) * sc (ix2 g 0)) := by
  rw [← hA']
  unfold step_main_v66_9
  rw [hK, hsc, hA, ha, hP]
  have hs := fun t => slice111 V k h K b t g e
  revert hs
  generalize Host.dynamicSlice S16x1024x8x64 K _ _ = B
  intro hs
  rw [id_eq]
  pointwise []
  exact congrArg (a (ix4 b g s 0) * A (ix5 b g s 0 e) + ·) (Finset.sum_congr rfl fun t _ => congrArg (fun z => P (ix5 b g s 0 t) * (z * sc (ix2 g 0))) (hs t))

end Cert.ReferenceIdeal.Trip

end
-- ==== Proof.RefLoop.lean ====
module

public import proofs.«01_k».proof.Proof.RefTrip

/-! The reference's scan over the cache: what it carries after `k` trips, entry by entry. -/

@[expose] public section

set_option maxRecDepth 16384

noncomputable section

namespace Cert.ReferenceIdeal.Trip

open Cert.ReferenceIdeal Cert.ReferenceIdeal.Gen Cert.ReferenceIdeal.Value Idealize.ShloMosaic Idealize.ShloMosaic.TcCoe Idealize.SL.Sem

/-- The score of query row `s` of group `g` of batch `b` against position `t` of block `j`. -/
def score (q : Vec Ideal S16x1x8x8x64 .bf16) (K : Vec Ideal S16x8192x8x64 .bf16) (ks : Vec Ideal S8x1 .bf16)
    (b : Fin 16) (g s : Fin 8) (j : ℕ) (t : Fin 1024) : EReal :=
  if hj : j < 8 then
    (∑ e : Fin 64, q (ix5 b 0 g s e) * (K (ix4 b ⟨j * 1024 + t.val, by omega⟩ g e) * ks (ix2 g 0))) * Ideal.ofBits .f32 1040187392#32
  else 0

/-- Coordinate `e` of the value at position `t` of block `j`, group `g`, batch `b`. -/
def value (U : Vec Ideal S16x8192x8x64 .bf16) (vs : Vec Ideal S8x1 .bf16)
    (b : Fin 16) (g : Fin 8) (e : Fin 64) (j : ℕ) (t : Fin 1024) : EReal :=
  if hj : j < 8 then U (ix4 b ⟨j * 1024 + t.val, by omega⟩ g e) * vs (ix2 g 0) else 0

/-- What the scan carries after `k` trips: the arrays it only reads, the trip number, the running maximum,
the running sum of weights and the running weighted sum of values. -/
structure Carried (q : Vec Ideal S16x1x8x8x64 .bf16) (K U : Vec Ideal S16x8192x8x64 .bf16) (ks vs : Vec Ideal S8x1 .bf16)
    (k : ℕ) (X : Valuation τ sig (Elt Ideal)) : Prop where
  h0 : X (Proc.devRef .tc main_v66_0) = iotaInDim S8 32 0
  h1 : X (Proc.devRef .tc main_v66_1) = K
  h2 : X (Proc.devRef .tc main_v66_2) = U
  h3 : X (Proc.devRef .tc main_v66_3) = ks
  h4 : X (Proc.devRef .tc main_v66_4) = vs
  h5 : X (Proc.devRef .tc main_v66_5) = q
  h6 : X (Proc.devRef .tc main_v66_6) = fun _ => BitVec.ofNat 32 k
  h7 : ∃ M : Vec Ideal S16x8x8x1 .f32, X (Proc.devRef .tc main_v66_7) = M ∧ ∀ b g s, M (ix4 b g s 0) = Softmax.om (score q K ks b g s) k
  h8 : ∃ L : Vec Ideal S16x8x8x1 .f32, X (Proc.devRef .tc main_v66_8) = L ∧ ∀ b g s, L (ix4 b g s 0) = Softmax.ol (score q K ks b g s) k
  h9 : ∃ A : Vec Ideal S16x8x8x1x64 .f32, X (Proc.devRef .tc main_v66_9) = A ∧
    ∀ b g s e, A (ix5 b g s 0 e) = Softmax.oa (score q K ks b g s) (value U vs b g e) k

/-- One trip takes what is carried after `k` trips to what is carried after `k + 1`. -/
theorem Carried.step {q : Vec Ideal S16x1x8x8x64 .bf16} {K U : Vec Ideal S16x8192x8x64 .bf16} {ks vs : Vec Ideal S8x1 .bf16}
    {k : ℕ} (hk : k < 8) {X : Valuation τ sig (Elt Ideal)} (h : Carried q K U ks vs k X) : Carried q K U ks vs (k + 1) (STEP X) := by
  obtain ⟨h0, h1, h2, h3, h4, h5, h6, ⟨M, hM, hMv⟩, ⟨L, hL, hLv⟩, ⟨A, hA, hAv⟩⟩ := h
  have hb := blockNo X ⟨k, hk⟩ h0 h6
  obtain ⟨Z, hZ⟩ : ∃ Z : Vec Ideal S16x8x8x1x1024 .f32, res_main_while0b_v125 X = Z := ⟨_, rfl⟩
  obtain ⟨M', hM'⟩ : ∃ M' : Vec Ideal S16x8x8x1 .f32, res_main_while0b_v127 X = M' := ⟨_, rfl⟩
  obtain ⟨a, ha⟩ : ∃ a : Vec Ideal S16x8x8x1 .f32, res_main_while0b_v129 X = a := ⟨_, rfl⟩
  obtain ⟨P, hP⟩ : ∃ P : Vec Ideal S16x8x8x1x1024 .f32, res_main_while0b_v133 X = P := ⟨_, rfl⟩
  obtain ⟨L', hL'⟩ : ∃ L' : Vec Ideal S16x8x8x1 .f32, step_main_v66_8 X = L' := ⟨_, rfl⟩
  obtain ⟨A', hA'⟩ : ∃ A' : Vec Ideal S16x8x8x1x64 .f32, step_main_v66_9 X = A' := ⟨_, rfl⟩
  have hZv : ∀ b g s t, Z (ix5 b g s 0 t) = score q K ks b g s k t := fun b g s t => by
    rw [← hZ, score, dif_pos hk]
    exact v125 X ⟨k, hk⟩ hb K h1 ks h3 q h5 b g s t
  have hMv' : ∀ b g s, M' (ix4 b g s 0) = Softmax.om (score q K ks b g s) (k + 1) := fun b g s => by
    rw [v127 X M hM Z hZ M' hM' b g s _ (hZv b g s), hMv]; rfl
  have hav : ∀ b g s, a (ix4 b g s 0)
      = Ideal.exp (Softmax.om (score q K ks b g s) k - Softmax.om (score q K ks b g s) (k + 1)) := fun b g s => by
    rw [v129 X M hM M' hM' a ha b g s, hMv, hMv']
  have hPv : ∀ b g s t, P (ix5 b g s 0 t)
      = Ideal.exp (score q K ks b g s k t - Softmax.om (score q K ks b g s) (k + 1)) := fun b g s t => by
    rw [v133 X Z hZ M' hM' P hP b g s t, hZv, hMv']
  refine ⟨(STEP_main_v66_0 X).trans h0, (STEP_main_v66_1 X).trans h1, (STEP_main_v66_2 X).trans h2, (STEP_main_v66_3 X).trans h3,
    (STEP_main_v66_4 X).trans h4, (STEP_main_v66_5 X).trans h5, ?_, ⟨M', ?_, hMv'⟩, ⟨L', (STEP_main_v66_8 X).trans hL', ?_⟩,
    ⟨A', (STEP_main_v66_9 X).trans hA', ?_⟩⟩
  · rw [STEP_main_v66_6]
    unfold step_main_v66_6
    rw [h6, id_eq]
    funext i
    exact (BitVec.ofNat_add k 1).symm
  · rw [STEP_main_v66_7]
    exact hM'
  · intro b g s
    rw [s8 X L hL a ha P hP L' hL' b g s, hav, hLv]
    exact congrArg (_ + ·) (Finset.sum_congr rfl fun t _ => hPv b g s t)
  · intro b g s e
    rw [s9 X ⟨k, hk⟩ hb A hA a ha P hP U h2 vs h4 A' hA' b g s e, hav, hAv]
    refine congrArg (_ + ·) (Finset.sum_congr rfl fun t _ => ?_)
    rw [hPv, value, dif_pos hk]

/-- The same over `k ≤ 8` trips. -/
theorem Carried.iterate {q : Vec Ideal S16x1x8x8x64 .bf16} {K U : Vec Ideal S16x8192x8x64 .bf16} {ks vs : Vec Ideal S8x1 .bf16}
    {X : Valuation τ sig (Elt Ideal)} (h : Carried q K U ks vs 0 X) : ∀ k, k ≤ 8 → Carried q K U ks vs k (STEP^[k] X)
  | 0, _ => h
  | k + 1, hk => by
    rw [Function.iterate_succ_apply']
    exact (Carried.iterate h k (by omega)).step (by omega)

/-- What is carried depends on the carried buffers only. -/
theorem Carried.congr {q : Vec Ideal S16x1x8x8x64 .bf16} {K U : Vec Ideal S16x8192x8x64 .bf16} {ks vs : Vec Ideal S8x1 .bf16}
    {k : ℕ} {X Y : Valuation τ sig (Elt Ideal)} (h : Carried q K U ks vs k X) (e : Agree Y X) : Carried q K U ks vs k Y := by
  obtain ⟨h0, h1, h2, h3, h4, h5, h6, ⟨M, hM, hMv⟩, ⟨L, hL, hLv⟩, ⟨A, hA, hAv⟩⟩ := h
  exact ⟨(e main_v66_0 (by decide)).trans h0, (e main_v66_1 (by decide)).trans h1, (e main_v66_2 (by decide)).trans h2,
    (e main_v66_3 (by decide)).trans h3, (e main_v66_4 (by decide)).trans h4, (e main_v66_5 (by decide)).trans h5,
    (e main_v66_6 (by decide)).trans h6, ⟨M, (e main_v66_7 (by decide)).trans hM, hMv⟩, ⟨L, (e main_v66_8 (by decide)).trans hL, hLv⟩,
    ⟨A, (e main_v66_9 (by decide)).trans hA, hAv⟩⟩

/-- At the scan's exit. -/
theorem exit (m : (ℓ : Loc nD τ sig) → Buf (Elt Ideal) ℓ) (ρ : Dev nD → PrngReg) (c : Dev nD)
    {q : Vec Ideal S16x1x8x8x64 .bf16} {K U : Vec Ideal S16x8192x8x64 .bf16} {ks vs : Vec Ideal S8x1 .bf16}
    (h : Carried q K U ks vs 0 (Gen.W14 m ρ c)) : Carried q K U ks vs 8 (Gen.W15 m ρ c) :=
  ((h.iterate 8 le_rfl).congr (atK_agree m ρ c 8)).congr (cond_keeps _)

end Cert.ReferenceIdeal.Trip

end
-- ==== Proof.RefPrefix.lean ====
module

public import proofs.«01_k».proof.Proof.Spec
public import proofs.«01_k».proof.Proof.Gen.ReferenceIdeal.Run
public import Idealize.ShloMosaic.Lib.Pointwise
public import Idealize.ShloMosaic.Lib.Claim
public import Idealize.ShloMosaic.Lib.Pipeline.ValueKit

/-! The reference's operations before its casts: the clipped multiples whose casts are the codes, entry by entry. -/

@[expose] public section

set_option maxRecDepth 16384

noncomputable section

namespace Cert.ReferenceIdeal.Prefix

open Cert.ReferenceIdeal Cert.ReferenceIdeal.Gen Idealize.ShloMosaic Idealize.ShloMosaic.TcCoe Idealize.ShloMosaic.StableHlo Idealize.SL.Sem

/-- The exponent of each group's scale: 0 below the least normal number and at infinity. -/
def expo (a : FVec Ideal S8 .f32) : FVec Ideal S8 .f32 :=
  select (ori (cmpf .olt (Host.absf a) (broadcastInDim S8 ![] bcast_S_S8 (constant S_ .f32 0x00800000#32)))
      (cmpf .oeq (Host.absf a) (broadcastInDim S8 ![] bcast_S_S8 (constant S_ .f32 0x7F800000#32))))
    (broadcastInDim S8 ![] bcast_S_S8 (id (constant S_ .f32 0x00000000#32)))
    (addf (Host.floor (Host.divf (Host.log (Host.absf a))
        (broadcastInDim S8 ![] bcast_S_S8 (id (Host.log (constant S_ .f32 0x40000000#32))))))
      (broadcastInDim S8 ![] bcast_S_S8 (constant S_ .f32 0x3F800000#32)))

/-- The multiplier of each group: two to the power one less the exponent of its scale, zero where the exponent is above 127. -/
def inv (a : FVec Ideal S8 .f32) : FVec Ideal S8 .f32 :=
  select (cmpf .ogt (expo a) (broadcastInDim S8 ![] bcast_S_S8 (constant S_ .f32 0x42FE0000#32)))
    (broadcastInDim S8 ![] bcast_S_S8 (id (constant S_ .f32 0x00000000#32)))
    (Host.powf (broadcastInDim S8 ![] bcast_S_S8 (constant S_ .f32 0x40000000#32))
      (subf (broadcastInDim S8 ![] bcast_S_S8 (constant S_ .f32 0x3F800000#32)) (expo a)))

/-- The clipped multiples. -/
def clipped (x : FVec Ideal S16x1x8x64 .bf16) (a : FVec Ideal S8 .f32) : FVec Ideal S16x1x8x64 .f32 :=
  minimumf (broadcastInDim S16x1x8x64 ![] bcast_S_S16x1x8x64 (id (constant S_ .f32 0x43E00000#32)))
    (maximumf (broadcastInDim S16x1x8x64 ![] bcast_S_S16x1x8x64 (id (constant S_ .f32 0xC3E00000#32)))
      (mulf (extf .f32 x bitsLt_bf16_f32)
        (broadcastInDim S16x1x8x64 ![0, 1, 2, 3] bcast_S1x1x8x1_S16x1x8x64_0_1_2_3
          (broadcastInDim S1x1x8x1 ![2, 3] bcast_S8x1_S1x1x8x1_2_3 (broadcastInDim S8x1 ![0] bcast_S8_S8x1_0 (inv a))))))

/-- A choice by the disjunction of two conditions. -/
theorem select_or (p q : Prop) [Decidable p] [Decidable q] (x y : EReal) :
    Scalar.select (IntOp.ori (BitVec.ofBool (decide p)) (BitVec.ofBool (decide q))) x y = if p ∨ q then x else y := by
  by_cases hp : p <;> by_cases hq : q <;> simp [hp, hq, Scalar.select, IntOp.ori]

/-- The multiplier at a group. -/
theorem inv_at (a : Vec Ideal S8 .f32) (g : Fin 8) : inv a (ix1 g) = Scale.rinv (FloatOps.absf (F := Ideal) (φ := .f32) (a (ix1 g))) := by
  unfold inv expo Scale.rinv Scale.rexp
  simp only [id_eq]
  pointwise []
  simp only [select_or]

/-- A clipped multiple, as the kernel's code of the same entry. -/
theorem clipped_at (x : Vec Ideal S16x1x8x64 .bf16) (a : Vec Ideal S8 .f32) (b : Fin 16) (g : Fin 8) (e : Fin 64) :
    clipped x a (ix4 b 0 g e) = KernelIdeal.Block.qcode (x (ix4 b 0 g e)) (a (ix1 g)) := by
  have h := inv_at a g
  unfold clipped KernelIdeal.Block.qcode
  rw [Scale.kinv_eq_rinv, ← h]
  generalize inv a = z
  simp only [id_eq]
  pointwise []

variable (m : (ℓ : Loc nD τ sig) → Buf (Elt Ideal) ℓ) (ρ : Dev nD → PrngReg) (c : Dev nD)

/-- What the casts read for the new keys. -/
theorem w6_v28 : W6 m ρ c (Proc.devRef .tc main_v28) = clipped (m ((c : Thread nD τ).loc main_arg1)) (m ((c : Thread nD τ).loc main_arg4)) := by
  unfold W6 W5 W4 W3 W2 W1
  after_results_simp
  all_goals rfl

/-- What the casts read for the new values. -/
theorem w12_v56 : W12 m ρ c (Proc.devRef .tc main_v56) = clipped (m ((c : Thread nD τ).loc main_arg2)) (m ((c : Thread nD τ).loc main_arg6)) := by
  rw [← W6_args m ρ c main_arg2 (by decide), ← W6_args m ρ c main_arg6 (by decide)]
  unfold W12 W11 W10 W9 W8 W7
  generalize W6 m ρ c = X
  after_results_simp
  all_goals rfl

/-- An array that the operations on the values' scale do not write is as the first six runs left it. -/
theorem w12_of_w6 (r : Ref sig .tc) (h6 : r ∉ hostOps0_6_W) (h7 : r ∉ hostOps0_7_W) (h8 : r ∉ hostOps0_8_W) (h9 : r ∉ hostOps0_9_W)
    (h10 : r ∉ hostOps0_10_W) (h11 : r ∉ hostOps0_11_W) : W12 m ρ c (Proc.devRef .tc r) = W6 m ρ c (Proc.devRef .tc r) :=
  (W12_of m ρ c r h11).trans ((W11_of m ρ c r h10).trans ((W10_of m ρ c r h9).trans ((W9_of m ρ c r h8).trans
    ((W8_of m ρ c r h7).trans (W7_of m ρ c r h6)))))

/-- The same at the casts' entry. -/
theorem w12_v28 : W12 m ρ c (Proc.devRef .tc main_v28) = clipped (m ((c : Thread nD τ).loc main_arg1)) (m ((c : Thread nD τ).loc main_arg4)) :=
  (w12_of_w6 m ρ c main_v28 (by decide) (by decide) (by decide) (by decide) (by decide) (by decide)).trans (w6_v28 m ρ c)

/-- The query at the casts' entry. -/
theorem w12_v0 : W12 m ρ c (Proc.devRef .tc main_v0) = shapeCast S16x1x8x8x64 (m ((c : Thread nD τ).loc main_arg0) : Vec Ideal S16x1x4096 .bf16) shapeCasts_S16x1x4096_S16x1x8x8x64 := by
  refine (w12_of_w6 m ρ c main_v0 (by decide) (by decide) (by decide) (by decide) (by decide) (by decide)).trans
    ((W6_of m ρ c main_v0 (by decide)).trans ((W5_of m ρ c main_v0 (by decide)).trans ((W4_of m ρ c main_v0 (by decide)).trans
      ((W3_of m ρ c main_v0 (by decide)).trans ((W2_of m ρ c main_v0 (by decide)).trans ?_)))))
  unfold W1
  after_results_simp
  all_goals rfl

end Cert.ReferenceIdeal.Prefix

end
-- ==== Proof.RefRegion.lean ====
module

public import proofs.«01_k».proof.Proof.Gen.ReferenceIdeal.Run
public import Idealize.ShloMosaic.Lib.Pointwise
public import Idealize.ShloMosaic.Lib.Claim
public import Idealize.ShloMosaic.Lib.Pipeline.ValueKit

/-! The reference's casts: over the extended reals each of the six arrays they leave is the array they read. -/

@[expose] public section

set_option maxRecDepth 16384

noncomputable section

namespace Cert.ReferenceIdeal.Casts

open Cert.ReferenceIdeal Cert.ReferenceIdeal.Gen Idealize.ShloMosaic Idealize.ShloMosaic.TcCoe Idealize.SL.Sem

variable (V : (c : Dev nD) → (b : Ref sig .tc) → Buf (Elt Ideal) ((c : Thread nD τ).loc b))

/-- The one point of the casts' grid. -/
def pt : Fin cfg0.N := ⟨0, by decide⟩

/-- Every block is its whole array. -/
theorem idx : ∀ t : Fin cfg0.N, win0_0.index t = ![0, 0, 0, 0] ∧ win0_1.index t = ![0, 0, 0, 0] ∧ win0_2.index t = ![0, 0, 0, 0] ∧ win0_3.index t = ![0, 0, 0, 0] ∧ win0_4.index t = ![0, 0, 0, 0] ∧ win0_5.index t = ![0, 0, 0, 0] ∧ win0_6.index t = ![0, 0, 0, 0] ∧ win0_7.index t = ![0, 0, 0, 0] ∧ win0_8.index t = ![0, 0, 0, 0] ∧ win0_9.index t = ![0, 0, 0, 0] := by
  decide +kernel

/-- The codes of the new keys. -/
theorem final4 (c : Dev nD) : (dat0 V c).arrAt 4 cfg0.N = (V c main_v28 : Vec Ideal S16x1x8x64 .f32) := by
  refine (dat0 V c).arrAt_eq_of_after_last 4 pt (by decide +kernel) _ fun j => ?_
  blk_simp
  rw [after0_4]
  frame_out
  blk_point [iblk0, k0_pay1, idx pt]

/-- The codes of the new values. -/
theorem final5 (c : Dev nD) : (dat0 V c).arrAt 5 cfg0.N = (V c main_v56 : Vec Ideal S16x1x8x64 .f32) := by
  refine (dat0 V c).arrAt_eq_of_after_last 5 pt (by decide +kernel) _ fun j => ?_
  blk_simp
  rw [after0_5]
  frame_out
  blk_point [iblk0, k0_pay2, idx pt]

/-- The new keys' codes read back. -/
theorem final6 (c : Dev nD) : (dat0 V c).arrAt 6 cfg0.N = (V c main_v28 : Vec Ideal S16x1x8x64 .f32) := by
  refine (dat0 V c).arrAt_eq_of_after_last 6 pt (by decide +kernel) _ fun j => ?_
  blk_simp
  rw [after0_6]
  frame_out
  blk_point [iblk0, k0_pay3, k0_pay1, idx pt]

/-- The new values' codes read back. -/
theorem final7 (c : Dev nD) : (dat0 V c).arrAt 7 cfg0.N = (V c main_v56 : Vec Ideal S16x1x8x64 .f32) := by
  refine (dat0 V c).arrAt_eq_of_after_last 7 pt (by decide +kernel) _ fun j => ?_
  blk_simp
  rw [after0_7]
  frame_out
  blk_point [iblk0, k0_pay4, k0_pay2, idx pt]

/-- The key cache. -/
theorem final8 (c : Dev nD) : (dat0 V c).arrAt 8 cfg0.N = (V c main_arg3 : Vec Ideal S16x8192x8x64 .fp8e4m3) := by
  refine (dat0 V c).arrAt_eq_of_after_last 8 pt (by decide +kernel) _ fun j => ?_
  blk_simp
  rw [after0_8]
  frame_out
  blk_point [iblk0, k0_pay5, idx pt]

/-- The value cache. -/
theorem final9 (c : Dev nD) : (dat0 V c).arrAt 9 cfg0.N = (V c main_arg5 : Vec Ideal S16x8192x8x64 .fp8e4m3) := by
  refine (dat0 V c).arrAt_eq_of_after_last 9 pt (by decide +kernel) _ fun j => ?_
  blk_simp
  rw [after0_9]
  frame_out
  blk_point [iblk0, k0_pay6, idx pt]

end Cert.ReferenceIdeal.Casts

end
-- ==== Proof.RefEntry.lean ====
module

public import proofs.«01_k».proof.Proof.RefLoop
public import proofs.«01_k».proof.Proof.RefPrefix
public import proofs.«01_k».proof.Proof.RefRegion

/-! What the reference's casts leave, and what its scan starts from. -/

@[expose] public section

set_option maxRecDepth 16384

noncomputable section

namespace Cert.ReferenceIdeal.Trip

open Cert.ReferenceIdeal Cert.ReferenceIdeal.Gen Cert.ReferenceIdeal.Value Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The query, split into groups and rows. -/
def query (a0 : FVec Ideal S16x1x4096 .bf16) : FVec Ideal S16x1x8x8x64 .bf16 := shapeCast S16x1x8x8x64 a0 shapeCasts_S16x1x4096_S16x1x8x8x64

/-- A scale per group, as a column. -/
def column (a : FVec Ideal S8 .f32) : FVec Ideal S8x1 .bf16 := broadcastInDim S8x1 ![0] bcast_S8_S8x1_0 (truncf .bf16 a bitsLt_bf16_f32)

/-- After the casts the codes of the new keys are the clipped scaled keys. -/
theorem w13_0 : W13 m ρ c (Proc.devRef .tc main_v57_0) = Prefix.clipped (m ((c : Thread nD τ).loc main_arg1)) (m ((c : Thread nD τ).loc main_arg4)) :=
  (W13_arr m ρ c 4).trans ((Casts.final4 (V12 m ρ) c).trans (Prefix.w12_v28 m ρ c))

/-- After the casts the codes of the new values are the clipped scaled values. -/
theorem w13_1 : W13 m ρ c (Proc.devRef .tc main_v57_1) = Prefix.clipped (m ((c : Thread nD τ).loc main_arg2)) (m ((c : Thread nD τ).loc main_arg6)) :=
  (W13_arr m ρ c 5).trans ((Casts.final5 (V12 m ρ) c).trans (Prefix.w12_v56 m ρ c))

/-- The narrow copy of the new keys' codes holds the same numbers. -/
theorem w13_2 : W13 m ρ c (Proc.devRef .tc main_v57_2) = Prefix.clipped (m ((c : Thread nD τ).loc main_arg1)) (m ((c : Thread nD τ).loc main_arg4)) :=
  (W13_arr m ρ c 6).trans ((Casts.final6 (V12 m ρ) c).trans (Prefix.w12_v28 m ρ c))

/-- The narrow copy of the new values' codes holds the same numbers. -/
theorem w13_3 : W13 m ρ c (Proc.devRef .tc main_v57_3) = Prefix.clipped (m ((c : Thread nD τ).loc main_arg2)) (m ((c : Thread nD τ).loc main_arg6)) :=
  (W13_arr m ρ c 7).trans ((Casts.final7 (V12 m ρ) c).trans (Prefix.w12_v56 m ρ c))

/-- The narrow copy of the cached keys' codes holds the cached codes. -/
theorem w13_4 : W13 m ρ c (Proc.devRef .tc main_v57_4) = m ((c : Thread nD τ).loc main_arg3) :=
  (W13_arr m ρ c 8).trans ((Casts.final8 (V12 m ρ) c).trans (W12_args m ρ c main_arg3 (by decide)))

/-- The narrow copy of the cached values' codes holds the cached codes. -/
theorem w13_5 : W13 m ρ c (Proc.devRef .tc main_v57_5) = m ((c : Thread nD τ).loc main_arg5) :=
  (W13_arr m ρ c 9).trans ((Casts.final9 (V12 m ρ) c).trans (W12_args m ρ c main_arg5 (by decide)))

/-- The query is the first argument, reshaped. -/
theorem w13_v0 : W13 m ρ c (Proc.devRef .tc main_v0) = query (m ((c : Thread nD τ).loc main_arg0)) :=
  (W13_of_ne m ρ c main_v0 (by decide)).trans (Prefix.w12_v0 m ρ c)

/-- The column of key scales is the fifth argument. -/
theorem w14_v59 : W14 m ρ c (Proc.devRef .tc main_v59) = column (m ((c : Thread nD τ).loc main_arg4)) := by
  rw [← W13_args m ρ c main_arg4 (by decide)]
  after_results_simp
  all_goals rfl

/-- The column of value scales is the seventh argument. -/
theorem w14_v61 : W14 m ρ c (Proc.devRef .tc main_v61) = column (m ((c : Thread nD τ).loc main_arg6)) := by
  rw [← W13_args m ρ c main_arg6 (by decide)]
  after_results_simp
  all_goals rfl

/-- What the scan starts from. -/
theorem entry : Carried (query (m ((c : Thread nD τ).loc main_arg0))) (m ((c : Thread nD τ).loc main_arg3)) (m ((c : Thread nD τ).loc main_arg5))
    (column (m ((c : Thread nD τ).loc main_arg4))) (column (m ((c : Thread nD τ).loc main_arg6))) 0 (W14 m ρ c) where
  h0 := by after_results_simp; all_goals rfl
  h1 := by rw [← w13_4 m ρ c]; after_results_simp; all_goals rfl
  h2 := by rw [← w13_5 m ρ c]; after_results_simp; all_goals rfl
  h3 := by rw [← W13_args m ρ c main_arg4 (by decide)]; after_results_simp; all_goals rfl
  h4 := by rw [← W13_args m ρ c main_arg6 (by decide)]; after_results_simp; all_goals rfl
  h5 := by rw [← w13_v0 m ρ c]; after_results_simp; all_goals rfl
  h6 := by after_results_simp; all_goals rfl
  h7 := ⟨broadcastInDim S16x8x8x1 ![] bcast_S_S16x8x8x1 (constant (F := Ideal) S_ .f32 0xFF800000#32), by after_results_simp; all_goals rfl,
    fun b g s => by pointwise []; all_goals rfl⟩
  h8 := ⟨broadcastInDim S16x8x8x1 ![] bcast_S_S16x8x8x1 (constant (F := Ideal) S_ .f32 0x00000000#32), by after_results_simp; all_goals rfl,
    fun b g s => by pointwise []; all_goals rfl⟩
  h9 := ⟨broadcastInDim S16x8x8x1x64 ![] bcast_S_S16x8x8x1x64 (constant (F := Ideal) S_ .f32 0x00000000#32), by after_results_simp; all_goals rfl,
    fun b g s e => by pointwise []; all_goals rfl⟩

end Cert.ReferenceIdeal.Trip

end
-- ==== Proof.RefTail.lean ====
module

public import proofs.«01_k».proof.Proof.Spec
public import proofs.«01_k».proof.Proof.Gen.ReferenceIdeal.Run
public import Idealize.ShloMosaic.Lib.Pointwise
public import Idealize.ShloMosaic.Lib.Claim
public import Idealize.ShloMosaic.Lib.Pipeline.ValueKit

/-! The reference's operations after its scan: the new token's block and the quotient, entry by entry. -/

@[expose] public section

set_option maxRecDepth 16384

noncomputable section

namespace Cert.ReferenceIdeal.Tail

open Cert.ReferenceIdeal Cert.ReferenceIdeal.Gen Idealize.ShloMosaic Idealize.ShloMosaic.TcCoe Idealize.ShloMosaic.StableHlo Idealize.SL.Sem

/-- The lower triangle of the one-by-one block. -/
def mask : S16x8x8x1x1.Idx → BitVec 1 :=
  broadcastInDim S16x8x8x1x1 ![0, 1, 2, 3, 4] bcast_S1x1x1x1x1_S16x8x8x1x1_0_1_2_3_4
    (broadcastInDim S1x1x1x1x1 ![3, 4] bcast_S1x1_S1x1x1x1x1_3_4
      (select (cmpi .sge (addi (iotaInDim S1x1 32 0) (broadcastInDim S1x1 ![] bcast_S_S1x1 (constantI S_ 32 0#32))) (iotaInDim S1x1 32 1))
        (broadcastInDim S1x1 ![] bcast_S_S1x1 (constantI S_ 1 1#1)) (broadcastInDim S1x1 ![] bcast_S_S1x1 (constantI S_ 1 0#1))))

/-- A new key or value, its codes times the scale of its group. -/
def fresh (x : FVec Ideal S16x1x8x64 .bf16) (ks : FVec Ideal S8x1 .bf16) : FVec Ideal S16x1x8x64 .bf16 :=
  mulf x (broadcastInDim S16x1x8x64 ![0, 1, 2, 3] bcast_S1x1x8x1_S16x1x8x64_0_1_2_3 (broadcastInDim S1x1x8x1 ![2, 3] bcast_S8x1_S1x1x8x1_2_3 ks))

/-- The scores against the new key. -/
def z79 (kn : FVec Ideal S16x1x8x64 .bf16) (q : FVec Ideal S16x1x8x8x64 .bf16) : FVec Ideal S16x8x8x1x1 .f32 :=
  mulf (transpose S16x8x8x1x1 [0, 1, 4, 3, 2] (Host.dotGeneral dot_S16x1x8x64_S16x1x8x8x64_S16x8x1x1x8_3_4_1_13_02_02 none kn q) transposes_S16x8x1x1x8_S16x8x8x1x1_0_1_4_3_2)
    (broadcastInDim S16x8x8x1x1 ![] bcast_S_S16x8x8x1x1 (constant S_ .f32 0x3E000000#32))

/-- The same, masked. -/
def z80 (z : FVec Ideal S16x8x8x1x1 .f32) : FVec Ideal S16x8x8x1x1 .f32 :=
  select mask z (broadcastInDim S16x8x8x1x1 ![] bcast_S_S16x8x8x1x1 (id (constant S_ .f32 0xFF800000#32)))

/-- The last running maximum. -/
def m82 (M : FVec Ideal S16x8x8x1 .f32) (z : FVec Ideal S16x8x8x1x1 .f32) : FVec Ideal S16x8x8x1 .f32 :=
  maximumf M (Host.reduce FloatOps.maximumf z (constant S_ .f32 0xFF800000#32) reducesTo_S16x8x8x1x1_S16x8x8x1_d4 h_S_)

/-- The factor that rescales what the scan leaves. -/
def a84 (M M' : FVec Ideal S16x8x8x1 .f32) : FVec Ideal S16x8x8x1 .f32 := Host.exp (subf M M')

/-- The new token's weight. -/
def p87 (z : FVec Ideal S16x8x8x1x1 .f32) (M' : FVec Ideal S16x8x8x1 .f32) : FVec Ideal S16x8x8x1x1 .f32 :=
  Host.exp (subf z (broadcastInDim S16x8x8x1x1 ![0, 1, 2, 3] bcast_S16x8x8x1_S16x8x8x1x1_0_1_2_3 M'))

/-- The sum of all the weights. -/
def l90 (a L : FVec Ideal S16x8x8x1 .f32) (p : FVec Ideal S16x8x8x1x1 .f32) : FVec Ideal S16x8x8x1 .f32 :=
  addf (mulf a L) (Host.reduceAdd p (constant S_ .f32 0x00000000#32) reducesTo_S16x8x8x1x1_S16x8x8x1_d4 h_S_)

/-- The weighted sum of all the values. -/
def o96 (a : FVec Ideal S16x8x8x1 .f32) (A : FVec Ideal S16x8x8x1x64 .f32) (p : FVec Ideal S16x8x8x1x1 .f32) (vn : FVec Ideal S16x1x8x64 .bf16) : FVec Ideal S16x8x8x1x64 .f32 :=
  addf (mulf (broadcastInDim S16x8x8x1x64 ![0, 1, 2, 3, 4] bcast_S16x8x8x1x1_S16x8x8x1x64_0_1_2_3_4 (broadcastInDim S16x8x8x1x1 ![0, 1, 2, 3] bcast_S16x8x8x1_S16x8x8x1x1_0_1_2_3 a)) A)
    (Host.dotGeneral dot_S16x8x8x1x1_S16x1x8x64_S16x8x8x1x64_4_1_23_3_01_02 none (truncf .bf16 p bitsLt_bf16_f32) vn)

/-- The quotient, a row per head. -/
def o102 (o : FVec Ideal S16x8x8x1x64 .f32) (l : FVec Ideal S16x8x8x1 .f32) : FVec Ideal S16x64x64 .bf16 :=
  truncf .bf16 (shapeCast S16x64x64 (transpose S16x1x8x8x64 [0, 3, 1, 2, 4]
    (Host.divf o (broadcastInDim S16x8x8x1x64 ![0, 1, 2, 3, 4] bcast_S16x8x8x1x1_S16x8x8x1x64_0_1_2_3_4 (broadcastInDim S16x8x8x1x1 ![0, 1, 2, 3] bcast_S16x8x8x1_S16x8x8x1x1_0_1_2_3 l)))
    transposes_S16x8x8x1x64_S16x1x8x8x64_0_3_1_2_4) shapeCasts_S16x1x8x8x64_S16x64x64) bitsLt_bf16_f32

/-- The output from the last block's pieces. -/
def out (M L : FVec Ideal S16x8x8x1 .f32) (A : FVec Ideal S16x8x8x1x64 .f32) (z : FVec Ideal S16x8x8x1x1 .f32) (vn : FVec Ideal S16x1x8x64 .bf16) : FVec Ideal S16x64x64 .bf16 :=
  o102 (o96 (a84 M (m82 M z)) A (p87 z (m82 M z)) vn) (l90 (a84 M (m82 M z)) L (p87 z (m82 M z)))

/-- The new token's dequantized entry: its code times its group's scale. -/
theorem fresh_at (x : Vec Ideal S16x1x8x64 .bf16) (ks : Vec Ideal S8x1 .bf16) (b : Fin 16) (g : Fin 8) (e : Fin 64) :
    fresh x ks (ix4 b 0 g e) = x (ix4 b 0 g e) * ks (ix2 g 0) := by
  unfold fresh
  pointwise []

/-- The new token's score: the query against its dequantized key, times the softmax scale. -/
theorem z79_at (kn : Vec Ideal S16x1x8x64 .bf16) (q : Vec Ideal S16x1x8x8x64 .bf16) (b : Fin 16) (g s : Fin 8) :
    z79 kn q (ix5 b g s 0 0) = (∑ e : Fin 64, q (ix5 b 0 g s e) * kn (ix4 b 0 g e)) * Ideal.ofBits .f32 1040187392#32 := by
  unfold z79
  pointwise []
  refine congrArg (· * _) (Finset.sum_congr rfl fun e _ => ?_)
  rw [mul_comm]

/-- The causal mask of one query and one key keeps the score. -/
theorem z80_at (z : Vec Ideal S16x8x8x1x1 .f32) (b : Fin 16) (g s : Fin 8) : z80 z (ix5 b g s 0 0) = z (ix5 b g s 0 0) := by
  unfold z80
  have h : mask (ix5 b g s 0 0) = 1#1 := by
    unfold mask
    pointwise []
    all_goals decide
  revert h
  generalize mask = k
  intro h
  refine (congrArg (fun w => Scalar.select w (z (ix5 b g s 0 0)) _) h).trans ?_
  rfl

/-- The maximum after the new token. -/
theorem m82_at (M : Vec Ideal S16x8x8x1 .f32) (z : Vec Ideal S16x8x8x1x1 .f32) (b : Fin 16) (g s : Fin 8) :
    m82 M z (ix4 b g s 0) = max (M (ix4 b g s 0)) (z (ix5 b g s 0 0)) := by
  unfold m82
  pointwise []
  refine congrArg (max _) ?_
  rw [Finset.univ_unique, Finset.fold_singleton]
  exact max_bot_right _

/-- The factor by which the new token rescales the running sums. -/
theorem a84_at (M M' : Vec Ideal S16x8x8x1 .f32) (b : Fin 16) (g s : Fin 8) :
    a84 M M' (ix4 b g s 0) = Ideal.exp (M (ix4 b g s 0) - M' (ix4 b g s 0)) := by
  unfold a84
  pointwise []

/-- The new token's weight. -/
theorem p87_at (z : Vec Ideal S16x8x8x1x1 .f32) (M' : Vec Ideal S16x8x8x1 .f32) (b : Fin 16) (g s : Fin 8) :
    p87 z M' (ix5 b g s 0 0) = Ideal.exp (z (ix5 b g s 0 0) - M' (ix4 b g s 0)) := by
  unfold p87
  pointwise []

/-- The running sum of weights after the new token. -/
theorem l90_at (a L : Vec Ideal S16x8x8x1 .f32) (p : Vec Ideal S16x8x8x1x1 .f32) (b : Fin 16) (g s : Fin 8) :
    l90 a L p (ix4 b g s 0) = a (ix4 b g s 0) * L (ix4 b g s 0) + p (ix5 b g s 0 0) := by
  unfold l90
  pointwise []
  all_goals simp

/-- The running weighted sum of values after the new token. -/
theorem o96_at (a : Vec Ideal S16x8x8x1 .f32) (A : Vec Ideal S16x8x8x1x64 .f32) (p : Vec Ideal S16x8x8x1x1 .f32) (vn : Vec Ideal S16x1x8x64 .bf16)
    (b : Fin 16) (g s : Fin 8) (e : Fin 64) :
    o96 a A p vn (ix5 b g s 0 e) = a (ix4 b g s 0) * A (ix5 b g s 0 e) + p (ix5 b g s 0 0) * vn (ix4 b 0 g e) := by
  unfold o96
  pointwise []
  all_goals simp

/-- The output: the weighted sum divided by the sum of weights, heads laid out group by group. -/
theorem o102_at (o : Vec Ideal S16x8x8x1x64 .f32) (l : Vec Ideal S16x8x8x1 .f32) (b : Fin 16) (h e : Fin 64) :
    o102 o l (ix3 b h e) = Ideal.div (o (ix5 b ⟨h.val / 8, by omega⟩ ⟨h.val % 8, by omega⟩ 0 e)) (l (ix4 b ⟨h.val / 8, by omega⟩ ⟨h.val % 8, by omega⟩ 0)) := by
  unfold o102
  pointwise []
  all_goals blk_ext

/-- The output after the last block, from any contents. -/
theorem read102 (X : Valuation τ sig (Elt Ideal)) :
    after hostOps1_5 (after hostOps1_4 (after hostOps1_3 (after hostOps1_2 (after hostOps1_1 X)))) (Proc.devRef .tc main_v102)
     = out (X (Proc.devRef .tc main_v66_7)) (X (Proc.devRef .tc main_v66_8)) (X (Proc.devRef .tc main_v66_9))
        (z80 (z79 (fresh (X (Proc.devRef .tc main_v57_2)) (X (Proc.devRef .tc main_v59))) (X (Proc.devRef .tc main_v0))))
        (fresh (X (Proc.devRef .tc main_v57_3)) (X (Proc.devRef .tc main_v61))) := by
  after_results_simp
  all_goals rfl

/-- The second result is the reshaped codes of the new keys. -/
theorem read103 (X : Valuation τ sig (Elt Ideal)) :
    after hostOps1_5 (after hostOps1_4 (after hostOps1_3 (after hostOps1_2 (after hostOps1_1 X)))) (Proc.devRef .tc main_v103)
     = shapeCast S16x8x64 (X (Proc.devRef .tc main_v57_0) : FVec Ideal S16x1x8x64 .fp8e4m3) shapeCasts_S16x1x8x64_S16x8x64 := by
  after_results_simp
  all_goals rfl

/-- The fourth result is the reshaped codes of the new values. -/
theorem read104 (X : Valuation τ sig (Elt Ideal)) :
    after hostOps1_5 (after hostOps1_4 (after hostOps1_3 (after hostOps1_2 (after hostOps1_1 X)))) (Proc.devRef .tc main_v104)
     = shapeCast S16x8x64 (X (Proc.devRef .tc main_v57_1) : FVec Ideal S16x1x8x64 .fp8e4m3) shapeCasts_S16x1x8x64_S16x8x64 := by
  after_results_simp
  all_goals rfl

end Cert.ReferenceIdeal.Tail

end
-- ==== Proof.RefValue.lean ====
module

public import proofs.«01_k».proof.Proof.RefEntry
public import proofs.«01_k».proof.Proof.RefTail

/-! The reference's three computed results, as functions of the argument arrays. -/

@[expose] public section

set_option maxRecDepth 16384

noncomputable section

namespace Cert.ReferenceIdeal.Out

open Cert.ReferenceIdeal Cert.ReferenceIdeal.Gen Cert.ReferenceIdeal.Value Cert.ReferenceIdeal.Trip Idealize.ShloMosaic Idealize.ShloMosaic.TcCoe Idealize.ShloMosaic.StableHlo Idealize.SL.Sem

/-- The query at an index. -/
theorem query_at (a0 : Vec Ideal S16x1x4096 .bf16) (b : Fin 16) (h e : Fin 64) :
    query a0 (ix5 b 0 ⟨h.val / 8, by omega⟩ ⟨h.val % 8, by omega⟩ e) = a0 (ix3 b 0 ⟨h.val * 64 + e.val, by omega⟩) := by
  unfold query
  pointwise []
  all_goals blk_ext

/-- A scale at its group. -/
theorem column_at (a : Vec Ideal S8 .f32) (g : Fin 8) : column a (ix2 g 0) = a (ix1 g) := by
  unfold column
  pointwise []

/-- The reference's codes are the specified ones. -/
theorem codes_eq (x : Vec Ideal S16x1x8x64 .bf16) (a : Vec Ideal S8 .f32) :
    shapeCast S16x8x64 (Prefix.clipped x a : FVec Ideal S16x1x8x64 .f32) shapeCasts_S16x1x8x64_S16x8x64 = Spec.codes x a := by
  have h := Prefix.clipped_at x a
  revert h
  generalize Prefix.clipped x a = y
  intro h
  funext i
  idx_vars i
  refine Eq.trans ?_ (h i0 i1 i2)
  pointwise []
  all_goals blk_ext

/-- The reference's scores are the specified ones. -/
theorem score_eq (a0 : Vec Ideal S16x1x4096 .bf16) (a3 : Vec Ideal S16x8192x8x64 .fp8e4m3) (a4 : Vec Ideal S8 .f32) (b : Fin 16) (h : Fin 64) :
    score (query a0) a3 (column a4) b ⟨h.val / 8, by omega⟩ ⟨h.val % 8, by omega⟩ = Spec.sC a0 a3 a4 b h := by
  funext j t
  unfold score Spec.sC
  refine dite_congr rfl (fun hj => ?_) fun _ => rfl
  refine congrArg (· * _) (Finset.sum_congr rfl fun e _ => ?_)
  rw [query_at, column_at]

/-- The reference's cached values are the specified ones. -/
theorem value_eq (a5 : Vec Ideal S16x8192x8x64 .fp8e4m3) (a6 : Vec Ideal S8 .f32) (b : Fin 16) (h e : Fin 64) :
    value a5 (column a6) b ⟨h.val / 8, by omega⟩ e = Spec.vC a5 a6 b h e := by
  funext j t
  unfold value Spec.vC
  refine dite_congr rfl (fun hj => ?_) fun _ => rfl
  rw [column_at]

variable (m : (ℓ : Loc nD τ sig) → Buf (Elt Ideal) ℓ) (ρ : Dev nD → PrngReg) (c : Dev nD)

/-- A buffer the scan does not write keeps its contents through any number of trips. -/
theorem wk_of (r : Ref sig .tc) (h : r ∉ condOps_W) (h' : r ∉ while0Ops0_W) (h'' : r ∉ while0Ops0_1_W) :
    ∀ k, Wk m ρ k c (Proc.devRef .tc r) = Went m ρ c (Proc.devRef .tc r)
  | 0 => rfl
  | k + 1 => by
    rw [show Wk m ρ (k + 1) c = StableHlo.afterL bodyI (StableHlo.after condOps (Wk m ρ k c)) from rfl]
    simp only [StableHlo.afterL_cons, StableHlo.afterL_nil]
    rw [StableHlo.after_of_writes_sub while0Ops0_1 _ while0Ops0_1_writes h'', StableHlo.after_of_writes_sub while0Ops0 _ while0Ops0_writes h', StableHlo.after_of_writes_sub condOps _ condOps_writes h]
    exact wk_of r h h' h'' k

/-- A buffer the scan does not write keeps its contents across it. -/
theorem w15_of (r : Ref sig .tc) (h : r ∉ condOps_W) (h' : r ∉ while0Ops0_W) (h'' : r ∉ while0Ops0_1_W) :
    W15 m ρ c (Proc.devRef .tc r) = W14 m ρ c (Proc.devRef .tc r) :=
  (StableHlo.after_of_writes_sub condOps _ condOps_writes h).trans (wk_of m ρ c r h h' h'' nT)

/-- The reference's second result is the specified codes of argument 1 under the scales of argument 4. -/
theorem final103 : WN m ρ c (Proc.devRef .tc main_v103) = Spec.codes (m ((c : Thread nD τ).loc main_arg1)) (m ((c : Thread nD τ).loc main_arg4)) := by
  refine (Tail.read103 (W15 m ρ c)).trans ?_
  rw [w15_of m ρ c main_v57_0 (by decide) (by decide) (by decide), W14_of m ρ c main_v57_0 (by decide), w13_0]
  exact codes_eq _ _

/-- The reference's fourth result is the specified codes of argument 2 under the scales of argument 6. -/
theorem final104 : WN m ρ c (Proc.devRef .tc main_v104) = Spec.codes (m ((c : Thread nD τ).loc main_arg2)) (m ((c : Thread nD τ).loc main_arg6)) := by
  refine (Tail.read104 (W15 m ρ c)).trans ?_
  rw [w15_of m ρ c main_v57_1 (by decide) (by decide) (by decide), W14_of m ρ c main_v57_1 (by decide), w13_1]
  exact codes_eq _ _

/-- The output from what the scan leaves. -/
theorem out_eq (a0 : Vec Ideal S16x1x4096 .bf16) (a1 a2 : Vec Ideal S16x1x8x64 .bf16) (a3 : Vec Ideal S16x8192x8x64 .fp8e4m3)
    (a4 : Vec Ideal S8 .f32) (a5 : Vec Ideal S16x8192x8x64 .fp8e4m3) (a6 : Vec Ideal S8 .f32)
    (M L : Vec Ideal S16x8x8x1 .f32) (A : Vec Ideal S16x8x8x1x64 .f32)
    (hM : ∀ b g s, M (ix4 b g s 0) = Softmax.om (score (query a0) a3 (column a4) b g s) 8)
    (hL : ∀ b g s, L (ix4 b g s 0) = Softmax.ol (score (query a0) a3 (column a4) b g s) 8)
    (hA : ∀ b g s e, A (ix5 b g s 0 e) = Softmax.oa (score (query a0) a3 (column a4) b g s) (value a5 (column a6) b g e) 8) :
    Tail.out M L A (Tail.z80 (Tail.z79 (Tail.fresh (Prefix.clipped a1 a4) (column a4)) (query a0))) (Tail.fresh (Prefix.clipped a2 a6) (column a6))
      = Spec.attn a0 a1 a2 a3 a4 a5 a6 := by
  have hz : ∀ (b : Fin 16) (h : Fin 64), Tail.z80 (Tail.z79 (Tail.fresh (Prefix.clipped a1 a4) (column a4)) (query a0)) (ix5 b ⟨h.val / 8, by omega⟩ ⟨h.val % 8, by omega⟩ 0 0)
      = Spec.sT a0 a1 a4 b h := fun b h => by
    rw [Tail.z80_at, Tail.z79_at]
    unfold Spec.sT
    refine congrArg (· * _) (Finset.sum_congr rfl fun e _ => ?_)
    rw [query_at, Tail.fresh_at, column_at, Prefix.clipped_at]
  have hv : ∀ (b : Fin 16) (h e : Fin 64), Tail.fresh (Prefix.clipped a2 a6) (column a6) (ix4 b 0 ⟨h.val / 8, by omega⟩ e) = Spec.vT a2 a6 b h e := fun b h e => by
    rw [Tail.fresh_at, column_at, Prefix.clipped_at]
    rfl
  revert hz hv
  generalize Tail.z80 _ = z
  generalize Tail.fresh (Prefix.clipped a2 a6) (column a6) = vn
  intro hz hv
  funext i
  idx_vars i
  refine Eq.trans ?_ (Softmax.online_eq_twoPass (Spec.sC a0 a3 a4 i0 i1) (Spec.vC a5 a6 i0 i1 i2) (Spec.sT a0 a1 a4 i0 i1) (Spec.vT a2 a6 i0 i1 i2))
  unfold Tail.out Softmax.online
  rw [Tail.o102_at, Tail.o96_at, Tail.l90_at, Tail.a84_at, Tail.p87_at, Tail.m82_at, hz, hv, hM, hL, hA, score_eq, value_eq]

/-- The reference's first result is the specified attention output of the seven arguments. -/
theorem final102 : WN m ρ c (Proc.devRef .tc main_v102) = Spec.attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨_, _, _, _, _, _, _, ⟨M, hM, hMv⟩, ⟨L, hL, hLv⟩, ⟨A, hA, hAv⟩⟩ := Trip.exit m ρ c (Trip.entry m ρ c)
  refine (Tail.read102 (W15 m ρ c)).trans ?_
  rw [hM, hL, hA, w15_of m ρ c main_v57_2 (by decide) (by decide) (by decide), W14_of m ρ c main_v57_2 (by decide), w13_2,
    w15_of m ρ c main_v57_3 (by decide) (by decide) (by decide), W14_of m ρ c main_v57_3 (by decide), w13_3,
    w15_of m ρ c main_v0 (by decide) (by decide) (by decide), W14_of m ρ c main_v0 (by decide), w13_v0,
    w15_of m ρ c main_v59 (by decide) (by decide) (by decide), w14_v59, w15_of m ρ c main_v61 (by decide) (by decide) (by decide), w14_v61]
  exact out_eq _ _ _ _ _ _ _ M L A hMv hLv hAv

/-- The reference's run: its results are the specified output and codes of the arguments, which keep their contents. -/
theorem run : θ_run defs (onTc (τ := τ) (main (F := Ideal))) ⟨m, fun _ => 0, ρ⟩ fun r => ∀ c : Dev nD,
      r.2.mem ((c : Thread nD τ).loc main_v102) = Spec.attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v103) = Spec.codes (m ((c : Thread nD τ).loc main_arg1)) (m ((c : Thread nD τ).loc main_arg4))
      ∧ r.2.mem ((c : Thread nD τ).loc main_v104) = Spec.codes (m ((c : Thread nD τ).loc main_arg2)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨(h c _ (mem_uc main_v102 (by decide))).trans (final102 m ρ c),
     (h c _ (mem_uc main_v103 (by decide))).trans (final103 m ρ c),
     (h c _ (mem_uc main_v104 (by decide))).trans (final104 m ρ c),
     (h c _ (mem_uc main_arg0 (by decide))).trans (WN_main_arg0 m ρ c),
     (h c _ (mem_uc main_arg1 (by decide))).trans (WN_main_arg1 m ρ c),
     (h c _ (mem_uc main_arg2 (by decide))).trans (WN_main_arg2 m ρ c),
     (h c _ (mem_uc main_arg3 (by decide))).trans (WN_main_arg3 m ρ c),
     (h c _ (mem_uc main_arg4 (by decide))).trans (WN_main_arg4 m ρ c),
     (h c _ (mem_uc main_arg5 (by decide))).trans (WN_main_arg5 m ρ c),
     (h c _ (mem_uc main_arg6 (by decide))).trans (WN_main_arg6 m ρ c)⟩) (run_main m ρ)

end Cert.ReferenceIdeal.Out

end
-- ==== Proof.lean ====
/- The five claims of this directory's test, assembled: the frames are the generated ones, preservation is trivial, and the
   equality of the results is that both programs compute `Cert.Spec`'s functions of the arguments. -/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Frame
public import proofs.«01_k».proof.Proof.Gen.KernelIdeal.Value
public import proofs.«01_k».proof.Proof.KernelValue
public import proofs.«01_k».proof.Proof.RefValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Over the extended reals the kernel and the reference end with equal results: the attention output, the two arrays of
    codes, and the two scale arrays handed through. -/
theorem algebraic : Cert.algebraic_KernelIdeal_ReferenceIdeal (hKernelIdeal := Cert.KernelIdeal.Gen.facts) (hReferenceIdeal := Cert.ReferenceIdeal.Gen.facts) := by
  pair_intro
  · run_from Cert.KernelIdeal.Value.run_blocks m g
  · run_from Cert.ReferenceIdeal.Out.run m' g'
    · exact (Cert.KernelIdeal.Out.final9 m c).symm
    · exact (Cert.KernelIdeal.Out.final10 m c).symm
    · exact (Cert.KernelIdeal.Out.final11 m c).symm

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
